-- ==== Defs.lean ====
def Pre_Kernel [hPre_labels_in_range : Cert.Pre_labels_in_range.Facts] (m : (ℓ : Loc Cert.Kernel.nD Cert.Kernel.τ Cert.Kernel.sig) → Buf (Elt Bits) ℓ) : Prop :=
  ∀ c : Dev Cert.Kernel.nD,
    (Cert.Pre_labels_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range [hPre_finite_and_in_range : Cert.Pre_finite_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_labels_in_range : Cert.Pre_labels_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_and_in_range [hReferenceIdeal : Cert.ReferenceIdeal.Facts] [hPre_finite_and_in_range : Cert.Pre_finite_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "c1" .f32 0x422D1F97#32 ((30 * (Real.log 2)⁻¹ : ℝ) : EReal)

def algebraic_KernelIdeal_ReferenceIdeal_pre_finite_and_in_range [hKernelIdeal : Cert.KernelIdeal.Facts] [hReferenceIdeal : Cert.ReferenceIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_labels_in_range : Cert.Pre_labels_in_range.Facts) (hPre_finite_and_in_range : Cert.Pre_finite_and_in_range.Facts),
    quiescent_Kernel (hKernel := hKernel) (hPre_labels_in_range := hPre_labels_in_range)
    ∧ quiescent_KernelIdeal (hKernelIdeal := hKernelIdeal) (hPre_labels_in_range := hPre_labels_in_range)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_finite_and_in_range (hReferenceIdeal := hReferenceIdeal) (hPre_finite_and_in_range := hPre_finite_and_in_range)
    ∧ preserves_Kernel_KernelIdeal
    ∧ algebraic_KernelIdeal_ReferenceIdeal_pre_finite_and_in_range (hKernelIdeal := hKernelIdeal) (hReferenceIdeal := hReferenceIdeal) (hPre_finite_and_in_range := hPre_finite_and_in_range)
-- ==== Pre_finite_and_in_range.lean ====
abbrev S1024x100000 : Shape := ⟨2, ![1024, 100000]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x100000 : S_.BroadcastsInDim S1024x100000 (![] : Fin 0 → Fin S1024x100000.rank)
  reducesTo_S1024x100000_S_d0_1 : S1024x100000.ReducesTo [0, 1] S_

variable [Facts]

def fn {F : FTy → Type} [FloatOps F] (main_arg0 : FVec F S1024x100000 .f32) (main_arg1 : IVec S1024 32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 100000#32
  let main_v2 : IVec S1024 32 := broadcastInDim S1024 ![] bcast_S_S1024 main_c_0
  let main_v3 : IVec S1024 1 := cmpi .slt main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  let main_v6 : FVec F S1024x100000 .f32 := Host.absf main_arg0
  let main_cst : FVec F S_ .f32 := constant S_ .f32 0x7F800000#32
  let main_v7 : FVec F S1024x100000 .f32 := broadcastInDim S1024x100000 ![] bcast_S_S1024x100000 main_cst
  let main_v8 : IVec S1024x100000 1 := cmpf .olt main_v6 main_v7
  let main_c_2 : IVec S_ 1 := constantI S_ 1 1#1
  let main_v9 : IVec S_ 1 := (fun x v => Host.reduce IntOp.andi x v reducesTo_S1024x100000_S_d0_1 h_S_) main_v8 main_c_2
  let main_v10 : IVec S_ 1 := andi main_v5 main_v9
  main_v10
-- ==== Pre_labels_in_range.lean ====
abbrev S1024x100000 : Shape := ⟨2, ![1024, 100000]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S1024x100000 .f32) (main_arg1 : IVec S1024 32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 100000#32
  let main_v2 : IVec S1024 32 := broadcastInDim S1024 ![] bcast_S_S1024 main_c_0
  let main_v3 : IVec S1024 1 := cmpi .slt main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S1024x100000 : Shape := ⟨2, ![1024, 100000]⟩
abbrev S1024 : Shape := ⟨1, ![1024]⟩
abbrev S800000x128 : Shape := ⟨2, ![800000, 128]⟩
abbrev S1024x128 : Shape := ⟨2, ![1024, 128]⟩
abbrev S32 : Shape := ⟨1, ![32]⟩
abbrev S32x128 : Shape := ⟨2, ![32, 128]⟩
abbrev S_ : Shape := ⟨0, ![]⟩
abbrev S16 : Shape := ⟨1, ![16]⟩
abbrev S1024x1 : Shape := ⟨2, ![1024, 1]⟩
abbrev S1024x2048 : Shape := ⟨2, ![1024, 2048]⟩
abbrev S1x1 : Shape := ⟨2, ![1, 1]⟩
abbrev S1x1024x1 : Shape := ⟨3, ![1, 1024, 1]⟩
abbrev S1 : Shape := ⟨1, ![1]⟩
abbrev S1x1x1 : Shape := ⟨3, ![1, 1, 1]⟩

abbrev nBuf : Table → Nat
  | .hbm => 8
  | .local .tc .vmem => 8
  | .local .scVector .vmem => 3
  | _ => 0

abbrev bufTy : (tb : Table) → Fin (nBuf tb) → BufTy
  | .hbm, ⟨0, _⟩ => ⟨S1024x100000, .f32⟩
  | .hbm, ⟨1, _⟩ => ⟨S1024, .i32⟩
  | .hbm, ⟨2, _⟩ => ⟨S800000x128, .f32⟩
  | .hbm, ⟨3, _⟩ => ⟨S1024x128, .f32⟩
  | .hbm, ⟨4, _⟩ => ⟨S1024x1, .f32⟩
  | .hbm, ⟨5, _⟩ => ⟨S1024x1, .i32⟩
  | .hbm, ⟨6, _⟩ => ⟨S1x1, .f32⟩
  | .hbm, ⟨7, _⟩ => ⟨S_, .f32⟩
  | .local .tc .vmem, ⟨0, _⟩ => ⟨S1024x2048, .f32⟩
  | .local .tc .vmem, ⟨1, _⟩ => ⟨S1024x2048, .f32⟩
  | .local .tc .vmem, ⟨2, _⟩ => ⟨S1024x1, .f32⟩
  | .local .tc .vmem, ⟨3, _⟩ => ⟨S1024x1, .f32⟩
  | .local .tc .vmem, ⟨4, _⟩ => ⟨S1024x1, .f32⟩
  | .local .tc .vmem, ⟨5, _⟩ => ⟨S1024x128, .f32⟩
  | .local .tc .vmem, ⟨6, _⟩ => ⟨S1024x1, .i32⟩
  | .local .tc .vmem, ⟨7, _⟩ => ⟨S1x1, .f32⟩
  | .local .scVector .vmem, ⟨0, _⟩ => ⟨S32, .i32⟩
  | .local .scVector .vmem, ⟨1, _⟩ => ⟨S32, .i32⟩
  | .local .scVector .vmem, ⟨2, _⟩ => ⟨S32x128, .f32⟩
  | _, _ => ⟨S1024x100000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_scratch0 : Ref sig .tc := ⟨.vmem, 3, rfl⟩
abbrev cc2_stg0_0 : Ref sig .tc := ⟨.vmem, 4, rfl⟩
abbrev cc2_stg1_0 : Ref sig .tc := ⟨.vmem, 5, rfl⟩
abbrev cc2_stg2_0 : Ref sig .tc := ⟨.vmem, 6, rfl⟩
abbrev cc2_stg3_0 : Ref sig .tc := ⟨.vmem, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc2_sem0_0 : DmaSem sig := 6
abbrev cc2_sem1_0 : DmaSem sig := 7
abbrev cc2_sem2_0 : DmaSem sig := 8
abbrev cc2_sem3_0 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_8_r1 : BitVec 32 := 0#32
  ![v2.toNat, 0]
abbrev grid1 : Pipeline.Grid := ⟨1, ![49], ![false]⟩

def k1_cond4 (i : grid1.Coords) : BitVec 1 :=
  let arg0 : BitVec 32 := BitVec.ofNat 32 (i 0).val
  let c48_i32_4 : BitVec 32 := 48#32
  let v9 : BitVec 1 := Scalar.cmpi .eq arg0 c48_i32_4
  let v10 : BitVec 32 := Scalar.extui v9
  let c0_i32_5 : BitVec 32 := 0#32
  let v11 : BitVec 1 := Scalar.cmpi .ne v10 c0_i32_5
  v11

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev grid2 : Pipeline.Grid := .none

abbrev stage2_0 : Fin 1 → Memref sig .tc .vmem S1024x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1024x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1024x1 .i32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "c1" => some ((30 * (Real.log 2)⁻¹ : ℝ) : EReal)
  | _ => none
-- ==== ReferenceIdeal.lean ====
abbrev S1024x100000 : Shape := ⟨2, ![1024, 100000]⟩
abbrev S1024 : Shape := ⟨1, ![1024]⟩
abbrev S_ : Shape := ⟨0, ![]⟩
abbrev S1024x1 : Shape := ⟨2, ![1024, 1]⟩
abbrev S1024x2 : Shape := ⟨2, ![1024, 2]⟩
abbrev S1024x1x1 : Shape := ⟨3, ![1024, 1, 1]⟩
abbrev S1 : Shape := ⟨1, ![1]⟩
abbrev S1x1x1 : Shape := ⟨3, ![1, 1, 1]⟩

abbrev nBuf : Space → Nat
  | .hbm => 112
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024, .i32⟩
  | .hbm, ⟨2, _⟩ => ⟨S1024, .i32⟩
  | .hbm, ⟨3, _⟩ => ⟨S_, .i32⟩
  | .hbm, ⟨4, _⟩ => ⟨S1024, .i32⟩
  | .hbm, ⟨5, _⟩ => ⟨S1024, .i1⟩
  | .hbm, ⟨6, _⟩ => ⟨S_, .i32⟩
  | .hbm, ⟨7, _⟩ => ⟨S1024, .i32⟩
  | .hbm, ⟨8, _⟩ => ⟨S1024, .i32⟩
  | .hbm, ⟨9, _⟩ => ⟨S1024, .i32⟩
  | .hbm, ⟨10, _⟩ => ⟨S_, .i32⟩
  | .hbm, ⟨11, _⟩ => ⟨S1024, .i32⟩
  | .hbm, ⟨12, _⟩ => ⟨S1024, .i1⟩
  | .hbm, ⟨13, _⟩ => ⟨S_, .i32⟩
  | .hbm, ⟨14, _⟩ => ⟨S1024, .i32⟩
  | .hbm, ⟨15, _⟩ => ⟨S1024, .i32⟩
  | .hbm, ⟨16, _⟩ => ⟨S1024, .i32⟩
  | .hbm, ⟨17, _⟩ => ⟨S1024x1, .i32⟩
  | .hbm, ⟨18, _⟩ => ⟨S1024x1, .i32⟩
  | .hbm, ⟨19, _⟩ => ⟨S1024x2, .i32⟩
  | .hbm, ⟨20, _⟩ => ⟨S1024, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .i1⟩
  | .hbm, ⟨37, _⟩ => ⟨S_, .f32⟩
  | .hbm, ⟨38, _⟩ => ⟨S1024, .f32⟩
  | .hbm, ⟨39, _⟩ => ⟨S1024, .f32⟩
  | .hbm, ⟨40, _⟩ => ⟨S1024, .f32⟩
  | .hbm, ⟨41, _⟩ => ⟨S_, .i32⟩
  | .hbm, ⟨42, _⟩ => ⟨S1024, .i32⟩
  | .hbm, ⟨43, _⟩ => ⟨S1024, .i1⟩
  | .hbm, ⟨44, _⟩ => ⟨S_, .i32⟩
  | .hbm, ⟨45, _⟩ => ⟨S1024, .i32⟩
  | .hbm, ⟨46, _⟩ => ⟨S1024, .i32⟩
  | .hbm, ⟨47, _⟩ => ⟨S1024, .i32⟩
  | .hbm, ⟨48, _⟩ => ⟨S_, .i32⟩
  | .hbm, ⟨49, _⟩ => ⟨S1024, .i32⟩
  | .hbm, ⟨50, _⟩ => ⟨S1024, .i1⟩
  | .hbm, ⟨51, _⟩ => ⟨S_, .i32⟩
  | .hbm, ⟨52, _⟩ => ⟨S1024, .i32⟩
  | .hbm, ⟨53, _⟩ => ⟨S1024, .i32⟩
  | .hbm, ⟨54, _⟩ => ⟨S1024, .i32⟩
  | .hbm, ⟨55, _⟩ => ⟨S1024x1, .i32⟩
  | .hbm, ⟨56, _⟩ => ⟨S1024x1, .i32⟩
  | .hbm, ⟨57, _⟩ => ⟨S1024x2, .i32⟩
  | .hbm, ⟨58, _⟩ => ⟨S1024x100000, .f32⟩
  | .hbm, ⟨59, _⟩ => ⟨S_, .f32⟩
  | .hbm, ⟨60, _⟩ => ⟨S1024x100000, .f32⟩
  | .hbm, ⟨61, _⟩ => ⟨S1024x100000, .f32⟩
  | .hbm, ⟨62, _⟩ => ⟨S_, .f32⟩
  | .hbm, ⟨63, _⟩ => ⟨S1024, .f32⟩
  | .hbm, ⟨64, _⟩ => ⟨S_, .f32⟩
  | .hbm, ⟨65, _⟩ => ⟨S1024, .f32⟩
  | .hbm, ⟨66, _⟩ => ⟨S1024, .f32⟩
  | .hbm, ⟨67, _⟩ => ⟨S1024x1, .f32⟩
  | .hbm, ⟨68, _⟩ => ⟨S1024x100000, .f32⟩
  | .hbm, ⟨69, _⟩ => ⟨S1024x100000, .f32⟩
  | .hbm, ⟨70, _⟩ => ⟨S1024x100000, .f32⟩
  | .hbm, ⟨71, _⟩ => ⟨S_, .f32⟩
  | .hbm, ⟨72, _⟩ => ⟨S1024, .f32⟩
  | .hbm, ⟨73, _⟩ => ⟨S1024x1, .f32⟩
  | .hbm, ⟨74, _⟩ => ⟨S1024x1, .f32⟩
  | .hbm, ⟨75, _⟩ => ⟨S1024x100000, .f32⟩
  | .hbm, ⟨76, _⟩ => ⟨S1024x100000, .f32⟩
  | .hbm, ⟨77, _⟩ => ⟨S1024x1, .i32⟩
  | .hbm, ⟨78, _⟩ => ⟨S_, .i32⟩
  | .hbm, ⟨79, _⟩ => ⟨S1024x1, .i32⟩
  | .hbm, ⟨80, _⟩ => ⟨S1024x1, .i1⟩
  | .hbm, ⟨81, _⟩ => ⟨S_, .i32⟩
  | .hbm, ⟨82, _⟩ => ⟨S1024x1, .i32⟩
  | .hbm, ⟨83, _⟩ => ⟨S1024x1, .i32⟩
  | .hbm, ⟨84, _⟩ => ⟨S1024x1, .i32⟩
  | .hbm, ⟨85, _⟩ => ⟨S1024x1x1, .i32⟩
  | .hbm, ⟨86, _⟩ => ⟨S1, .i32⟩
  | .hbm, ⟨87, _⟩ => ⟨S_, .i32⟩
  | .hbm, ⟨88, _⟩ => ⟨S1024x1x1, .i32⟩
  | .hbm, ⟨89, _⟩ => ⟨S1024x1x1, .i1⟩
  | .hbm, ⟨90, _⟩ => ⟨S1x1x1, .i32⟩
  | .hbm, ⟨91, _⟩ => ⟨S1024x1x1, .i32⟩
  | .hbm, ⟨92, _⟩ => ⟨S1024x1x1, .i1⟩
  | .hbm, ⟨93, _⟩ => ⟨S1024x1x1, .i1⟩
  | .hbm, ⟨94, _⟩ => ⟨S_, .i1⟩
  | .hbm, ⟨95, _⟩ => ⟨S1024x1, .i1⟩
  | .hbm, ⟨96, _⟩ => ⟨S1024x1, .f32⟩
  | .hbm, ⟨97, _⟩ => ⟨S_, .f32⟩
  | .hbm, ⟨98, _⟩ => ⟨S1024x1, .f32⟩
  | .hbm, ⟨99, _⟩ => ⟨S1024x1, .f32⟩
  | .hbm, ⟨100, _⟩ => ⟨S1024, .f32⟩
  | .hbm, ⟨101, _⟩ => ⟨S1024, .f32⟩
  | .hbm, ⟨102, _⟩ => ⟨S1024, .f32⟩
  | .hbm, ⟨103, _⟩ => ⟨S1024, .f32⟩
  | .hbm, ⟨104, _⟩ => ⟨S_, .f32⟩
  | .hbm, ⟨105, _⟩ => ⟨S1024, .f32⟩
  | .hbm, ⟨106, _⟩ => ⟨S1024, .f32⟩
  | .hbm, ⟨107, _⟩ => ⟨S1024, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_7 : Ref sig .tc := ⟨.hbm, 41, rfl⟩
abbrev main_v25 : Ref sig .tc := ⟨.hbm, 42, rfl⟩
abbrev main_v26 : Ref sig .tc := ⟨.hbm, 43, rfl⟩
abbrev main_c_8 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_9 : Ref sig .tc := ⟨.hbm, 48, rfl⟩
abbrev main_v30 : Ref sig .tc := ⟨.hbm, 49, rfl⟩
abbrev main_v31 : Ref sig .tc := ⟨.hbm, 50, rfl⟩
abbrev main_c_10 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_11 : Ref sig .tc := ⟨.hbm, 59, rfl⟩
abbrev main_v39 : Ref sig .tc := ⟨.hbm, 60, rfl⟩
abbrev main_v40 : Ref sig .tc := ⟨.hbm, 61, rfl⟩
abbrev main_call2_cst : Ref sig .tc := ⟨.hbm, 62, rfl⟩
abbrev main_call2_v0 : Ref sig .tc := ⟨.hbm, 63, rfl⟩
abbrev main_call2_cst_0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_v6 : Ref sig .tc := ⟨.hbm, 70, rfl⟩
abbrev main_call2_cst_1 : Ref sig .tc := ⟨.hbm, 71, rfl⟩
abbrev main_call2_v7 : Ref sig .tc := ⟨.hbm, 72, rfl⟩
abbrev main_call2_v8 : Ref sig .tc := ⟨.hbm, 73, rfl⟩
abbrev main_call2_v9 : Ref sig .tc := ⟨.hbm, 74, rfl⟩
abbrev main_call2_v10 : Ref sig .tc := ⟨.hbm, 75, rfl⟩
abbrev main_v41 : Ref sig .tc := ⟨.hbm, 76, rfl⟩
abbrev main_v42 : Ref sig .tc := ⟨.hbm, 77, rfl⟩
abbrev main_call3_c : Ref sig .tc := ⟨.hbm, 78, rfl⟩
abbrev main_call3_v0 : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_v5 : Ref sig .tc := ⟨.hbm, 85, rfl⟩
abbrev main_call3_c_1 : Ref sig .tc := ⟨.hbm, 86, rfl⟩
abbrev main_call3_c_2 : Ref sig .tc := ⟨.hbm, 87, rfl⟩
abbrev main_call3_v6 : Ref sig .tc := ⟨.hbm, 88, rfl⟩
abbrev main_call3_v7 : Ref sig .tc := ⟨.hbm, 89, rfl⟩
abbrev main_call3_v8 : Ref sig .tc := ⟨.hbm, 90, rfl⟩
abbrev main_call3_v9 : Ref sig .tc := ⟨.hbm, 91, rfl⟩
abbrev main_call3_v10 : Ref sig .tc := ⟨.hbm, 92, rfl⟩
abbrev main_call3_v11 : Ref sig .tc := ⟨.hbm, 93, rfl⟩
abbrev main_call3_c_3 : Ref sig .tc := ⟨.hbm, 94, rfl⟩
abbrev main_call3_v12 : Ref sig .tc := ⟨.hbm, 95, rfl⟩
abbrev main_call3_v13 : Ref sig .tc := ⟨.hbm, 96, rfl⟩
abbrev main_call3_cst : Ref sig .tc := ⟨.hbm, 97, rfl⟩
abbrev main_call3_v14 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_cst_12 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_cst_13 : Ref sig .tc := ⟨.hbm, 108, rfl⟩
abbrev main_v51 : Ref sig .tc := ⟨.hbm, 109, rfl⟩
abbrev main_cst_14 : Ref sig .tc := ⟨.hbm, 110, rfl⟩
abbrev main_v52 : Ref sig .tc := ⟨.hbm, 111, rfl⟩

abbrev nD : Nat := 1
abbrev τ : Topo := Topo.v7x

variable {F : FTy → Type} [FloatOps F]
-- ==== Proof.ScTile.lean ====
/-
  One SparseCore task of the kernel: thirty-two tasks (two SparseCores, sixteen tiles each), task `2·s + c` fetching its
  thirty-two labels, computing for each the table row that holds the picked cosine, gathering those rows by one
  indirect copy and writing them to its thirty-two rows of the result. The values are carried throughout: the task
  leaves in its rows of the result exactly the rows of the table that `pickRow` names.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.Writes
public import Idealize.ShloMosaic.Lib.Pipeline.Value
public import Idealize.ShloMosaic.Lib.Tactic
public import proofs.«01_k».proof.Proof.Gen.KernelIdeal
public import proofs.«01_k».proof.Proof.Gen.KernelIdeal.Skeleton

@[expose] public section

noncomputable section

namespace Cert.Proof.ScTile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)

variable {F : FTy → Type} [FloatOps F] [Named F]

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UU : Type := UH × (URounds (GSem nD τ sig) Unit × Counters)

local notation "𝕄" => MT nD τ sig (HIx 1) (Elt F) ℕ UU ℕ

abbrev EH : Emb UH (MT nD τ sig (HIx 1) (Elt F) ℕ UU ℕ) := embL

/-! ## The arrays -/

abbrev tLoc (d : Dev nD) : Loc nD τ sig := (SparseCore.T d).loc main_v0
abbrev lLoc (d : Dev nD) : Loc nD τ sig := (SparseCore.T d).loc main_arg1
abbrev oLoc (d : Dev nD) : Loc nD τ sig := (SparseCore.T d).loc main_v1

local notation "tV" => (Memref.whole Cert.KernelIdeal.main_v0_scv : Memref Cert.KernelIdeal.sig Kind.scVector Space.hbm Cert.KernelIdeal.S800000x128 EltTy.f32)
local notation "lV" => (Memref.whole Cert.KernelIdeal.main_arg1_scv : Memref Cert.KernelIdeal.sig Kind.scVector Space.hbm Cert.KernelIdeal.S1024 EltTy.i32)
local notation "oV" => (Memref.whole Cert.KernelIdeal.main_v1_scv : Memref Cert.KernelIdeal.sig Kind.scVector Space.hbm Cert.KernelIdeal.S1024x128 EltTy.f32)
local notation "sV" => (Memref.whole Cert.KernelIdeal.cc0_scratch0 : Memref Cert.KernelIdeal.sig Kind.scVector Space.vmem Cert.KernelIdeal.S32 EltTy.i32)
local notation "xV" => (Memref.whole Cert.KernelIdeal.cc0_scratch1 : Memref Cert.KernelIdeal.sig Kind.scVector Space.vmem Cert.KernelIdeal.S32 EltTy.i32)
local notation "rV" => (Memref.whole Cert.KernelIdeal.cc0_scratch2 : Memref Cert.KernelIdeal.sig Kind.scVector Space.vmem Cert.KernelIdeal.S32x128 EltTy.f32)

theorem ldiv : 32 ∣ S1024.size 0 := ⟨32, rfl⟩
theorem odiv : 32 ∣ S1024x128.size 0 := ⟨32, rfl⟩
/-- Task `i`'s labels, and its rows of the result. -/
abbrev lrow (i : Fin 32) : Rect S1024 := Rect.part (s := S1024) (a₀ := 0) ldiv i
abbrev orow (i : Fin 32) : Rect S1024x128 := Rect.part (s := S1024x128) (a₀ := 0) odiv i
abbrev lRowSet (i : Fin 32) : Finset S1024.Idx := ((lV).view.slice (lrow i)).set
abbrev oRowSet (i : Fin 32) : Finset S1024x128.Idx := ((oV).view.slice (orow i)).set

/-- Task `i`'s share of the table. -/
abbrev tq (i : Fin 32) : PosShare TreeShare := leaf 5 fullShare i

/-! ## What the tasks leave -/

/-- The word the kernel computes for logits row `r` and label `l`: element `r·100000 + l` of the flattened array, its
    row of 128. -/
def rowWord (r : ℕ) (l : BitVec 32) : BitVec 32 := (BitVec.ofNat 32 r * 100000#32 + l) >>> 7

/-- That row as a row of the table (the table has 800000; the remainder is taken only so that the definition is total). -/
def pickRow (r : ℕ) (l : BitVec 32) : Fin 800000 := ⟨(rowWord r l).toNat % 800000, Nat.mod_lt _ (by decide)⟩

/-- An index of the table. -/
def tIx (r : Fin 800000) (k : Fin 128) : S800000x128.Idx := fun | 0 => r | 1 => k

/-- An index of the labels. -/
def lIx (r : Fin 1024) : S1024.Idx := fun | 0 => r

/-- The gathered rows: row `r` is the table's row `pickRow r label[r]`. -/
def gathered (tb : S800000x128.Idx → Elt F .f32) (lb : S1024.Idx → Elt F .i32) : S1024x128.Idx → Elt F .f32 :=
  fun j => tb (tIx (pickRow (j 0).val (lb (lIx (j 0)))) (j 1))

theorem rowWord_lt {r : ℕ} {l : BitVec 32} (hr : r < 1024) (hl : l.toNat < 100000) : (rowWord r l).toNat < 800000 := by
  have e : (BitVec.ofNat 32 r * 100000#32 + l).toNat = r * 100000 + l.toNat := by
    rw [BitVec.toNat_add, BitVec.toNat_mul, BitVec.toNat_ofNat, BitVec.toNat_ofNat, Nat.mod_eq_of_lt (a := r) (by omega),
      Nat.mod_eq_of_lt (a := 100000) (by omega), Nat.mod_eq_of_lt (a := r * 100000) (by omega), Nat.mod_eq_of_lt (by omega)]
  rw [rowWord, BitVec.toNat_ushiftRight, e, Nat.shiftRight_eq_div_pow]
  omega

/-! ## What a task is handed and hands back -/

variable (m : (ℓ : Loc nD τ sig) → Buf (Elt F) ℓ) (tb : (d : Dev nD) → Buf (Elt F) (tLoc d))

abbrev lRowPts (d : Dev nD) (i : Fin 32) : sProp 𝕄 := lLoc d ↦[lRowSet i]{fullShare} m (lLoc d)
abbrev tShPts (d : Dev nD) (i : Fin 32) : sProp 𝕄 := tLoc d ↦{tq i} tb d
abbrev oRowPts (d : Dev nD) (i : Fin 32) (f : Buf (Elt F) (oLoc d)) : sProp 𝕄 := oLoc d ↦[oRowSet i]{fullShare} f
abbrev outC (d : Dev nD) : Buf (Elt F) (oLoc d) := gathered (tb d) (m (lLoc d))

/-- The index list of the task on `(L 0, L 1)`: lane `x` names the table row of logits row `64·(L 1) + 32·(L 0) + x`. -/
def idxC (d : Dev nD) (L : grid0.Coords) : S32.Idx → Elt F .i32 := fun x =>
  rowWord (64 * (L 1).val + 32 * (L 0).val + (x 0).val) (m (lLoc d) ((Rect.unit (s := S1024) (k0_off1 L) S32.size (k0_off1_inb L)).emb x))

/-- What the proof asks of the launch memory: every label is a column. -/
def PreOK : Prop := ∀ (d : Dev nD) (j : S1024.Idx), (m (lLoc d) j : BitVec 32).toNat < 100000

section Tile

variable (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The task on SparseCore `L 0`, tile `L 1`. -/
abbrev tL (L : grid0.Coords) : Fin 32 := ⟨2 * (L 1).val + (L 0).val, by
  have h0 : (L 0).val < 2 := (L 0).isLt
  have h1 : (L 1).val < 16 := (L 1).isLt
  omega⟩

abbrev lrowK (L : grid0.Coords) : Rect S1024 := Rect.unit (s := S1024) (k0_off1 L) S32.size (k0_off1_inb L)
abbrev orowK (L : grid0.Coords) : Rect S1024x128 := Rect.unit (s := S1024x128) (k0_off2 L) S32x128.size (k0_off2_inb L)
abbrev lRowK (L : grid0.Coords) : Memref sig .scVector .hbm S32 .i32 := (lV).slice (lrowK L) (fun _ => rfl)
abbrev oRowK (L : grid0.Coords) : Memref sig .scVector .hbm S32x128 .f32 := (oV).slice (orowK L) (fun _ => rfl)
abbrev tAllK : Memref sig .scVector .hbm S800000x128 .f32 := (tV).slice (Rect.unit (s := S800000x128) ![0, 0] S800000x128.size inb_S800000x128_S800000x128_0_0) (fun _ => rfl)

theorem lrowK_eq : lrowK L = lrow (tL L) := by
  unfold lrowK lrow Rect.part Rect.block
  congr 1 <;> funext a
  · rw [k0_off1_eq]
    match a with
    | 0 => simp [Shape.partIx, Shape.partSize]; ring
  · match a with
    | 0 => simp [Shape.partSize]
theorem orowK_eq : orowK L = orow (tL L) := by
  unfold orowK orow Rect.part Rect.block
  congr 1 <;> funext a
  · rw [k0_off2_eq]
    match a with
    | 0 => simp [Shape.partIx, Shape.partSize]; ring
    | 1 => simp [Shape.partIx, Shape.partSize]
  · match a with
    | 0 => simp [Shape.partSize]
    | 1 => simp [Shape.partSize]

theorem set_lRowK : (lRowK L).view.set = lRowSet (tL L) := by
  show ((lV).view.slice (lrowK L)).set = ((lV).view.slice (lrow (tL L))).set
  exact lrowK_eq L ▸ rfl
theorem set_oRowK : (oRowK L).view.set = oRowSet (tL L) := by
  show ((oV).view.slice (orowK L)).set = ((oV).view.slice (orow (tL L))).set
  exact orowK_eq L ▸ rfl

theorem pts_lRowK (f : Buf (Elt F) (lLoc d)) :
    ((lRowK L).view.loc (V d (cV L) (jV L)) ↦[(lRowK L).view.set]{fullShare} f : sProp 𝕄) = lLoc d ↦[lRowSet (tL L)]{fullShare} f := by
  rw [set_lRowK]
theorem pts_oRowK (f : Buf (Elt F) (oLoc d)) :
    ((oRowK L).view.loc (V d (cV L) (jV L)) ↦[(oRowK L).view.set]{fullShare} f : sProp 𝕄) = oLoc d ↦[oRowSet (tL L)]{fullShare} f := by
  rw [set_oRowK]
theorem pts_tV (q : PosShare TreeShare) (f : Buf (Elt F) (tLoc d)) :
    ((tV).view.loc (V d (cV L) (jV L)) ↦{q} f : sProp 𝕄) = tLoc d ↦{q} f := rfl
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
theorem pts_xV (f : Buf (Elt F) ((V d (cV L) (jV L)).loc cc0_scratch1)) :
    ((xV).view.loc (V d (cV L) (jV L)) ↦{fullShare} f : sProp 𝕄) = (V d (cV L) (jV L)).loc cc0_scratch1 ↦{fullShare} f := rfl
theorem pts_rV (f : Buf (Elt F) ((V d (cV L) (jV L)).loc cc0_scratch2)) :
    ((rV).view.loc (V d (cV L) (jV L)) ↦{fullShare} f : sProp 𝕄) = (V d (cV L) (jV L)).loc cc0_scratch2 ↦{fullShare} f := rfl

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scratch3.sem)
abbrev cCcell (d : Dev nD) (c : Fin τ.nSC) (i : Fin τ.nSub) : GSem nD τ sig := (V d c i, .dma cc0_scoped1.sem)

theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch3.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

/-- The three scratch buffers are among the tile's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
        SparseCore.Cfg.mem_ownRefs_of_owner (p := Proc.scVector (cV L) (jV L)) (b := (Proc.scVector (cV L) (jV L)).devRef cc0_scratch2) rfl⟩⟩)]

/-- The first sixteen lanes' payload, lane by lane. -/
theorem pay1_apply (v : Vec F S16 .i32) (x : S16.Idx) :
    k0_pay1 (F := F) L v x = rowWord (64 * (L 1).val + 32 * (L 0).val + (x 0).val) (v x) := by
  simp only [k0_pay1, Idealize.ShloMosaic.shapeCast_self, shrui, addi, muli, iota, broadcast, IntOp.addi, IntOp.muli, IntOp.shrui, Scalar.muli, Scalar.addi,
    List.foldl_cons, List.foldl_nil, rowWord]
  have e : ((BitVec.ofNat 32 (L 1).val * 2#32 + BitVec.ofNat 32 (L 0).val) * 32#32 + 0#32 + BitVec.ofNat 32 (0 * S16.size 0 + (x 0).val))
      = BitVec.ofNat 32 (64 * (L 1).val + 32 * (L 0).val + (x 0).val) := by
    rw [← BitVec.ofNat_mul, ← BitVec.ofNat_add, ← BitVec.ofNat_mul, ← BitVec.ofNat_add, ← BitVec.ofNat_add]
    congr 1; omega
  rw [e]; rfl

/-- The last sixteen lanes' payload, lane by lane. -/
theorem pay2_apply (v : Vec F S16 .i32) (x : S16.Idx) :
    k0_pay2 (F := F) L v x = rowWord (64 * (L 1).val + 32 * (L 0).val + (16 + (x 0).val)) (v x) := by
  simp only [k0_pay2, Idealize.ShloMosaic.shapeCast_self, shrui, addi, muli, iota, broadcast, IntOp.addi, IntOp.muli, IntOp.shrui, Scalar.muli, Scalar.addi,
    List.foldl_cons, List.foldl_nil, rowWord]
  have e : ((BitVec.ofNat 32 (L 1).val * 2#32 + BitVec.ofNat 32 (L 0).val) * 32#32 + 16#32 + BitVec.ofNat 32 (0 * S16.size 0 + (x 0).val))
      = BitVec.ofNat 32 (64 * (L 1).val + 32 * (L 0).val + (16 + (x 0).val)) := by
    rw [← BitVec.ofNat_mul, ← BitVec.ofNat_add, ← BitVec.ofNat_mul, ← BitVec.ofNat_add, ← BitVec.ofNat_add]
    congr 1; omega
  rw [e]; rfl

/-- The list's buffer after the two stores, read: lane `x` is `idxC`'s, whatever it held before. -/
theorem idx_read (v1 v2 : Vec F S16 .i32)
    (h1 : ∀ x, v1 x = m (lLoc d) ((lrowK L).emb ((Rect.unit (s := S32) ![0] S16.size inb_S32_S16_0).emb x)))
    (h2 : ∀ x, v2 x = m (lLoc d) ((lrowK L).emb ((Rect.unit (s := S32) ![16] S16.size inb_S32_S16_16).emb x))) (f0) :
    (xV).view.read (Elt F) ((xV).view.writes (Elt F) f0
        [⟨Rect.unit ![16] S16.size inb_S32_S16_16, k0_pay2 (F := F) L v2⟩,
          ⟨Rect.unit ![0] S16.size inb_S32_S16_0, k0_pay1 (F := F) L v1⟩]) = idxC m d L := by
  funext y
  refine View.read_writes_apply_of_pieces (xV).view f0 (idxC m d L) _ ?_ y (View.cover_of_tiled (s := S32) _ S16.size rfl y)
  intro p hp x
  rcases List.mem_cons.mp hp with rfl | hp
  · refine (pay2_apply L _ x).trans ?_
    unfold idxC; rw [h2]
    congr 1
    show _ = _ + (16 + 1 * (x 0).val)
    omega
  · obtain rfl := List.mem_singleton.mp hp
    refine (pay1_apply L _ x).trans ?_
    unfold idxC; rw [h1]
    congr 1
    show _ = _ + (0 + 1 * (x 0).val)
    omega

theorem idxC_lt (hpre : PreOK m) (x : S32.Idx) : (idxC m d L x : BitVec 32).toNat < 800000 := by
  have h0 : (L 0).val < 2 := (L 0).isLt
  have h1 : (L 1).val < 16 := (L 1).isLt
  have hx : (x 0).val < 32 := (x 0).isLt
  exact rowWord_lt (by omega) (hpre d _)

/-- The rows the task writes out are the gathered ones. -/
theorem out_eq (pay : S32x128.Idx → Elt F .f32) (fi : Buf (Elt F) ((V d (cV L) (jV L)).loc cc0_scratch1)) (f0 : Buf (Elt F) (oLoc d))
    (hidx : (xV).view.read (Elt F) fi = idxC m d L)
    (hin : ∀ x, ((xV).view.read (Elt F) fi x).toNat < S800000x128.size gathers_S800000x128_S32x128.axis)
    (hpay : pay = SparseCore.gatherPayload gathers_S800000x128_S32x128 ((tAllK).view.read (Elt F) (tb d))
        (SparseCore.rows (o := S32x128.size gathers_S800000x128_S32x128.axis') ((xV).view.read (Elt F) fi) rfl hin)) :
    ∀ i ∈ (oRowK L).view.set, (oRowK L).view.writes (Elt F) f0 [⟨Rect.whole S32x128, pay⟩] i = outC m tb d i := by
  intro i hi
  obtain ⟨y, -, rfl⟩ := Finset.mem_map.mp hi
  have h1 : (oRowK L).view.writes (Elt F) f0 [⟨Rect.whole S32x128, pay⟩] ((oRowK L).view.emb y) = pay y := by
    have := View.read_writes_cons_emb (oRowK L).view f0 (Rect.whole S32x128) pay [] y
    rw [Rect.emb_whole_apply, View.read_apply] at this
    exact ((cast_eq _ _).symm.trans this)
  rw [h1, hpay]
  have h0 : (L 0).val < 2 := (L 0).isLt
  have h2 : (L 1).val < 16 := (L 1).isLt
  have hy : (y 0).val < 32 := (y 0).isLt
  have hoff := k0_off2_eq L
  have hoff1 := k0_off1_eq L
  have e0 : ((oRowK L).view.emb y 0).val = 64 * (L 1).val + 32 * (L 0).val + (y 0).val := by
    show (k0_off2 L) 0 + 1 * (y 0).val = _
    rw [hoff]; simp
  have e1 : ((oRowK L).view.emb y 1).val = (y 1).val := by
    show (k0_off2 L) 1 + 1 * (y 1).val = _
    rw [hoff]; simp
  unfold SparseCore.gatherPayload
  rw [View.read_apply]
  refine (cast_eq _ _).trans ?_
  show tb d _ = tb d _
  congr 1
  funext a
  apply Fin.ext
  have hr : (SparseCore.rows (o := S32x128.size gathers_S800000x128_S32x128.axis') ((xV).view.read (Elt F) fi) rfl hin (y gathers_S800000x128_S32x128.axis')).val
      = (pickRow (64 * (L 1).val + 32 * (L 0).val + (y 0).val) (m (lLoc d) (lIx ((oRowK L).view.emb y 0)))).val := by
    have hz : ∀ z : S32.Idx, (z 0).val = (y 0).val → ((xV).view.read (Elt F) fi z : BitVec 32).toNat
        = (pickRow (64 * (L 1).val + 32 * (L 0).val + (y 0).val) (m (lLoc d) (lIx ((oRowK L).view.emb y 0)))).val := by
      intro z hzy
      have hlt := hin z
      rw [hidx] at hlt ⊢
      have hc : idxC m d L z = rowWord (64 * (L 1).val + 32 * (L 0).val + (y 0).val) (m (lLoc d) (lIx ((oRowK L).view.emb y 0))) := by
        unfold idxC
        rw [hzy]
        congr 2
        funext b
        match b with
        | 0 =>
          apply Fin.ext
          show (k0_off1 L) 0 + 1 * (z 0).val = ((oRowK L).view.emb y 0).val
          rw [e0, hoff1, hzy]; simp
      rw [hc] at hlt ⊢
      exact (Nat.mod_eq_of_lt hlt).symm
    refine hz _ ?_
    have := Shape.rowMajor_val_one (d := ![32]) (S32.rowMajor.symm ((y gathers_S800000x128_S32x128.axis').cast rfl))
    refine this.symm.trans ?_
    show (S32.rowMajor (S32.rowMajor.symm _)).val = _
    rw [Equiv.apply_symm_apply]; rfl
  match a with
  | 0 =>
    show 0 + 1 * (gathers_S800000x128_S32x128.idx _ y 0).val = (pickRow ((oRowK L).view.emb y 0).val _).val
    rw [e0, ← hr, Nat.zero_add, Nat.one_mul]
    exact congrArg Fin.val (Shape.Gathers.idx_axis gathers_S800000x128_S32x128 _ y)
  | 1 =>
    show 0 + 1 * (gathers_S800000x128_S32x128.idx _ y 1).val = ((oRowK L).view.emb y 1).val
    rw [e1, Nat.zero_add, Nat.one_mul]
    exact Shape.Gathers.idx_of_ne gathers_S800000x128_S32x128 _ y 1 (by decide)

set_option maxHeartbeats 4000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (lRowPts m d (tL L) ∗ tShPts tb d (tL L) ∗ oRowPts d (tL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather_kernel L tV (Memref.isWhole_whole _) lV (Memref.isWhole_whole _) oV (Memref.isWhole_whole _)
            sV (Memref.isWhole_whole _) xV (Memref.isWhole_whole _) rV (Memref.isWhole_whole _) cc0_scratch3 cc0_scoped0 cc0_scoped1)
          fun _ => iprop((lRowPts m d (tL L) ∗ tShPts tb d (tL L) ∗ oRowPts d (tL L) (outC m tb d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_kernel_eq_skeleton]; unfold cc0__sc_gather_kernel_skel
  simp only [k0_part1_eq_skeleton]; unfold k0_part1_skel
  rw [(K (F := F)).scopedBufs_V hF d (cV L) (jV L), SparseCore.Cfg.scopedSems0_V (Val := Elt F) d (cV L) (jV L), ownSems0_V, ownBufs_V]
  iintro ⟨#Hlv, -, ⟨Hl, Ht, Ho⟩, ⟨⟨%fs, Hs⟩, ⟨%fx, Hx⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hl' := (Entails.of_eq (pts_lRowK (F := F) d L _).symm) $$ Hl
  ihave Ho' := (Entails.of_eq (pts_oRowK (F := F) d L _).symm) $$ Ho
  ihave Ht' := (Entails.of_eq (pts_tV (F := F) d L _ _).symm) $$ Ht
  ihave Hs' := (Entails.of_eq (pts_sV (F := F) d L _).symm) $$ Hs
  ihave Hx' := (Entails.of_eq (pts_xV (F := F) d L _).symm) $$ Hx
  ihave Hr' := (Entails.of_eq (pts_rV (F := F) d L _).symm) $$ Hr
  sl_exec
  have hidx : (xV).view.read (Elt F) ((xV).view.writes (Elt F) (xV).view.junk (tile_body.sl.Hx'_2 m d L fs)) = idxC m d L := by
    unfold tile_body.sl.Hx'_2
    have hr : (sV).view.read (Elt F) (View.write (Elt F) (sV).view fs (tile_body.sl.dma0 m d L) Finset.univ)
        = fun x => m (lLoc d) ((lrowK L).emb x) := by
      rw [View.write_whole_univ]; simp only [Memref.view_whole, View.read_whole]
      funext x
      exact (View.read_apply _ _).trans (cast_eq _ _)
    exact idx_read m d L _ _ (fun x => congrFun hr _) (fun x => congrFun hr _) _
  have hin : ∀ x, ((xV).view.read (Elt F) ((xV).view.writes (Elt F) (xV).view.junk (tile_body.sl.Hx'_2 m d L fs)) x).toNat < S800000x128.size gathers_S800000x128_S32x128.axis := by
    intro x; rw [hidx]; exact idxC_lt m d L hpre x
  generalize (xV).view.writes (Elt F) (xV).view.junk (tile_body.sl.Hx'_2 m d L fs) = fi at hidx hin
  ihave Hts := (pointsTo_split_subset (q := tq (tL L)) (f := tb d) (S := Finset.univ) (Finset.subset_univ (tAllK).view.set)).1 $$ Ht'
  icases Hts with ⟨Hts, Htr⟩
  have hrs : (rV).view.set = Finset.univ := View.set_whole _
  have hxs : (xV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hx'' := (Entails.of_eq (show ((xV).view.loc (V d (cV L) (jV L)) ↦{fullShare} fi : sProp 𝕄)
      = (xV).view.loc (V d (cV L) (jV L)) ↦[(xV).view.set]{fullShare} fi by rw [hxs])) $$ Hx'
  have hN : ∀ h : S800000x128.Gathers 0 S32x128, ∑ j, ((rV).slice (S32x128.rowRect h.axis' j) (S32x128.stride_rowRect h.axis' j)).view.dmaCredit
      = (rV).view.dmaCredit := by decide
  iapply (SparseCore.wp_indirectGatherLocal countersEmb 𝒱₀ (V d (cV L) (jV L)) none (hg := gathers_S800000x128_S32x128) (default : HIx 1)
      (rV).view.dmaCredit (hN _) (by decide) hin) $$ [Hts Hr'' Hx'' HsemB]
  · isplitl [Hts]; · iexact Hts
    isplitl [Hr'']; · iexact Hr''
    isplitl [Hx'']; · iexact Hx''
    iexact HsemB
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch3.sem)) $$ Hmw
  iintro ⟨⟨Hr', Hts, Hx'⟩, HsemB, HO⟩
  ihave Ht' := (pointsTo_split_subset (q := tq (tL L)) (f := tb d) (S := Finset.univ) (Finset.subset_univ (tAllK).view.set)).2 $$ [Hts Htr]; · isplitl [Hts] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hx3 := (Entails.of_eq (show ((xV).view.loc (V d (cV L) (jV L)) ↦[(xV).view.set]{fullShare} _ : sProp 𝕄)
      = (xV).view.loc (V d (cV L) (jV L)) ↦{fullShare} _ by rw [hxs])) $$ Hx'
  sl_exec
  sl_step
  isplitl [Hl' Ht' Ho']
  · isplitl [Hl']; · iapply (Entails.of_eq (pts_lRowK (F := F) d L _)); iexact Hl'
    isplitl [Ht']; · iexact Ht'
    iapply (Entails.of_eq (pts_oRowK (F := F) d L _))
    ihave Ho2 := (Entails.of_eq (pointsTo_congr (ℓ := (oRowK L).view.loc (V d (cV L) (jV L))) (q := fullShare) (out_eq m tb d L _ fi (m (oLoc d)) hidx hin
      (by unfold tile_body.sl.dma0_1; rw [View.write_whole_univ]; simp only [Memref.view_whole, View.read_whole])))) $$ Ho'
    iexact Ho2
  isplitl [Hs' Hx3 Hr3 Hbufs]
  · isplitl [Hs']; · iexists _; iexact Hs'
    isplitl [Hx3]; · iexists _; iexact Hx3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile
end Cert.Proof.ScTile
-- ==== Proof.Reduce.lean ====
/-
  The TensorCore's first call: the row sums of 2^(c1·x − c1) over the 100000 columns, in 49 blocks of 2048 columns, the
  last of which overhangs the array and is masked. This module runs the body once per case of the grid point.
-/
module

public import proofs.«01_k».proof.Proof.ScTile
public import proofs.«01_k».proof.Proof.Gen.KernelIdeal.Launch
public import proofs.«01_k».proof.Proof.Gen.KernelIdeal.Points
public import Idealize.ShloMosaic.Lib.Pipeline.RegionsLoop
public import Idealize.ShloMosaic.Lib.VecWindow

@[expose] public section

noncomputable section

namespace Cert.Proof.Reduce

open Cert.KernelIdeal Cert.KernelIdeal.Gen
open Cert.Proof.ScTile (UU 𝒱₀)

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig (HIx 1) (Elt F) ℕ UU ℕ

/-- The accumulator held whole on device `c`. -/
abbrev scr (c : Dev nD) (g : S1024x1.Idx → Elt F .f32) : sProp 𝕄 := (Memref.whole cc1_scratch0).view.loc (c : Thread nD τ) ↦{fullShare} g

theorem cond1_iff : ∀ n : Fin 49, (Scalar.cmpi .ne (Scalar.extui (Scalar.cmpi .eq (BitVec.ofNat 32 n.val) 0#32) : BitVec 32) 0#32 = 1#1) ↔ n.val = 0 := by decide
theorem cond2_iff : ∀ n : Fin 49, (Scalar.cmpi .ne (Scalar.extui (Scalar.cmpi .slt (BitVec.ofNat 32 n.val) 48#32) : BitVec 32) 0#32 = 1#1) ↔ n.val < 48 := by decide
theorem cond3_iff : ∀ n : Fin 49, (Scalar.cmpi .ne (Scalar.extui (Scalar.cmpi .sge (BitVec.ofNat 32 n.val) 48#32) : BitVec 32) 0#32 = 1#1) ↔ ¬ n.val < 48 := by decide
theorem cond4_iff : ∀ n : Fin 49, (Scalar.cmpi .ne (Scalar.extui (Scalar.cmpi .eq (BitVec.ofNat 32 n.val) 48#32) : BitVec 32) 0#32 = 1#1) ↔ ¬ n.val < 48 := by decide

theorem hz : (![0, 0] : Fin 2 → Nat) = fun _ => 0 := funext fun a => by fin_cases a <;> rfl

/-- Memref `M`'s buffer held whole on device `c`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- A load of the whole accumulator reads it, and a store over the whole of it leaves the payload. -/
theorem scr_read (f : S1024x1.Idx → Elt F .f32) : (Memref.whole cc1_scratch0 : Memref sig .tc _ _ _).view.readAt (Elt F)
    (Rect.unit (s := S1024x1) ![0, 0] S1024x1.size inb_S1024x1_S1024x1_0_0).toLoadRect f = f :=
  View.readAt_full (Memref.whole cc1_scratch0 : Memref sig .tc _ _ _).view f _
theorem scr_writes (f w : S1024x1.Idx → Elt F .f32) (L : List (View.Piece (Elt F) S1024x1 .f32)) :
    (Memref.whole cc1_scratch0 : Memref sig .tc _ _ _).view.writes (Elt F) f
      (⟨Rect.unit (s := S1024x1) ![0, 0] S1024x1.size inb_S1024x1_S1024x1_0_0, w⟩ :: L) = w := by
  rw [View.writes_cons]
  exact Memref.write_access_unit_zero_univ (Elt F) cc1_scratch0 hz inb_S1024x1_S1024x1_0_0 _ w

/-- The body at the first point: the accumulator is started at zero and takes the block. -/
theorem run_first (c : Dev nD) (E : Set ℕ) (i : grid1.Coords) (hi : (i 0).val = 0)
    (M0 : Memref sig .tc .vmem S1024x2048 .f32) (w0 : M0.IsWhole) (M1 : Memref sig .tc .vmem S1024x1 .f32) (w1 : M1.IsWhole)
    (f0 : Buf (Elt F) (M0.view.loc (c : Thread nD τ))) (X0 : S1024x2048.Idx → Elt F .f32) (hf0 : M0.view.read (Elt F) f0 = X0)
    (g : S1024x1.Idx → Elt F .f32) (Q : PUnit → sProp 𝕄) :
    iprop(pt c M0 f0 ∗ scr c g ∗ (iprop(pt c M0 f0 ∗ scr c (k1_pay2 X0 k1_pay1)) -∗ Q ⟨⟩))
      ⊢ wp frame (wpE (defs₀ (F := F)) 𝒱₀ c none) E (cc1__reduce_kernel i M0 w0 M1 w1 (Memref.whole cc1_scratch0) (Memref.isWhole_whole _)) Q := by
  have h1 := (cond1_iff (i 0)).mpr hi
  have h2 := (cond2_iff (i 0)).mpr (by omega)
  have h3 := mt (cond3_iff (i 0)).mp (by omega)
  have h4 : ¬ k1_cond4 i = 1#1 := mt (cond4_iff (i 0)).mp (by omega)
  simp only [cc1__reduce_kernel_eq_skeleton]; unfold cc1__reduce_kernel_skel
  iintro ⟨H0, Hs, Hk⟩
  sl_exec
  sl_step
  iapply Hk
  isplitl [H0]; · iexact H0
  have ev : run_first.sl.v13 (F := F) = k1_pay1 (F := F) := View.readCov_full _ _ _ _ _
  rw [scr_writes, ev, View.readAt_full, hf0]
  iexact Hs

/-- The body at a point between: the accumulator takes the block. -/
theorem run_mid (c : Dev nD) (E : Set ℕ) (i : grid1.Coords) (hi : (i 0).val ≠ 0) (hi2 : (i 0).val < 48)
    (M0 : Memref sig .tc .vmem S1024x2048 .f32) (w0 : M0.IsWhole) (M1 : Memref sig .tc .vmem S1024x1 .f32) (w1 : M1.IsWhole)
    (f0 : Buf (Elt F) (M0.view.loc (c : Thread nD τ))) (X0 : S1024x2048.Idx → Elt F .f32) (hf0 : M0.view.read (Elt F) f0 = X0)
    (g : S1024x1.Idx → Elt F .f32) (Q : PUnit → sProp 𝕄) :
    iprop(pt c M0 f0 ∗ scr c g ∗ (iprop(pt c M0 f0 ∗ scr c (k1_pay2 X0 g)) -∗ Q ⟨⟩))
      ⊢ wp frame (wpE (defs₀ (F := F)) 𝒱₀ c none) E (cc1__reduce_kernel i M0 w0 M1 w1 (Memref.whole cc1_scratch0) (Memref.isWhole_whole _)) Q := by
  have h1 := mt (cond1_iff (i 0)).mp hi
  have h2 := (cond2_iff (i 0)).mpr hi2
  have h3 := mt (cond3_iff (i 0)).mp (by omega)
  have h4 : ¬ k1_cond4 i = 1#1 := mt (cond4_iff (i 0)).mp (by omega)
  simp only [cc1__reduce_kernel_eq_skeleton]; unfold cc1__reduce_kernel_skel
  iintro ⟨H0, Hs, Hk⟩
  sl_exec
  sl_step
  iapply Hk
  isplitl [H0]; · iexact H0
  rw [scr_writes, scr_read, View.readAt_full, hf0]
  iexact Hs

/-- The body at the last point: the accumulator takes the masked block, and its contents go to the result's block. -/
theorem run_last (c : Dev nD) (E : Set ℕ) (i : grid1.Coords) (hi : ¬ (i 0).val < 48)
    (M0 : Memref sig .tc .vmem S1024x2048 .f32) (w0 : M0.IsWhole) (M1 : Memref sig .tc .vmem S1024x1 .f32) (w1 : M1.IsWhole)
    (f0 : Buf (Elt F) (M0.view.loc (c : Thread nD τ))) (X0 : S1024x2048.Idx → Elt F .f32) (hf0 : M0.view.read (Elt F) f0 = X0)
    (f1 : Buf (Elt F) (M1.view.loc (c : Thread nD τ)))
    (g : S1024x1.Idx → Elt F .f32) (Q : PUnit → sProp 𝕄) :
    iprop(pt c M0 f0 ∗ pt c M1 f1 ∗ scr c g
        ∗ (iprop(pt c M0 f0 ∗ (∃ f, ⌜M1.view.read (Elt F) f = k1_pay3 i X0 g⌝ ∗ pt c M1 f) ∗ scr c (k1_pay3 i X0 g)) -∗ Q ⟨⟩))
      ⊢ wp frame (wpE (defs₀ (F := F)) 𝒱₀ c none) E (cc1__reduce_kernel i M0 w0 M1 w1 (Memref.whole cc1_scratch0) (Memref.isWhole_whole _)) Q := by
  have h1 := mt (cond1_iff (i 0)).mp (by omega)
  have h2 := mt (cond2_iff (i 0)).mp hi
  have h3 := (cond3_iff (i 0)).mpr hi
  have h4 : k1_cond4 i = 1#1 := (cond4_iff (i 0)).mpr hi
  simp only [cc1__reduce_kernel_eq_skeleton]; unfold cc1__reduce_kernel_skel
  iintro ⟨H0, H1, Hs, Hk⟩
  sl_exec
  sl_step
  iapply Hk
  isplitl [H0]; · iexact H0
  have e : run_last.sl.v12 (F := F) c i M0 f0 g = k1_pay3 i X0 g := by
    refine (View.readCov_full _ _ _ _ _).trans ?_
    rw [scr_read, View.readAt_full, hf0]
  isplitl [H1]
  · iexists _
    isplitr; swap; (· iexact H1)
    ipureintro
    rw [View.read_writes_full, e]
  unfold run_last.sl.Hs_1
  rw [scr_writes, scr_read, View.readAt_full, hf0]
  iexact Hs
/-! ## The blocks and what the calls add up -/

/-- An index of the cosines. -/
def aIx (r : Fin 1024) (k : Fin 100000) : S1024x100000.Idx := fun | 0 => r | 1 => k

/-- Block `n` of the cosines: columns `2048·n` on; past the array's end, which the masked sum does not read, zero. -/
def blkX (Xa : S1024x100000.Idx → Elt F .f32) (n : ℕ) : S1024x2048.Idx → Elt F .f32 := fun j =>
  if h : n * 2048 + (j 1).val < 100000 then Xa (aIx (j 0) ⟨n * 2048 + (j 1).val, h⟩) else Scalar.ofBits .f32 0x00000000#32

/-- The last grid point. -/
abbrev iLast : grid1.Coords := grid1.coords (⟨48, by decide⟩ : Fin cfg1.N)

/-- The accumulator after `n` grid points. -/
def accT (Xa : S1024x100000.Idx → Elt F .f32) : ℕ → S1024x1.Idx → Elt F .f32
  | 0 => k1_pay1
  | n + 1 => if n < 48 then k1_pay2 (blkX Xa n) (accT Xa n) else k1_pay3 iLast (blkX Xa 48) (accT Xa n)

theorem coords_val : ∀ t : Fin cfg1.N, (grid1.coords t 0).val = t.val := by decide +kernel
theorem off_val : ∀ t : Fin cfg1.N, (win1_0.rect t).off 0 = 0 ∧ (win1_0.rect t).off 1 = t.val * 2048 := by decide +kernel
theorem xsize_val : ∀ t : Fin cfg1.N, win1_0.xsize (grid1.coords t) 0 = 1024 ∧ win1_0.xsize (grid1.coords t) 1 = min 2048 (100000 - t.val * 2048) := by decide +kernel

/-- What a fetch leaves in the staging buffer, at a column inside the array. -/
theorem fill_eq (Xa : S1024x100000.Idx → Elt F .f32) (t : Fin cfg1.N) (d : S1024x2048.Idx → Elt F .f32) (j : S1024x2048.Idx)
    (h : t.val * 2048 + (j 1).val < 100000) :
    win1_0.fill (grid1.coords t) d ((win1_0.blk t).view.read (Elt F) Xa) j = blkX Xa t.val j := by
  have hm : win1_0.moved (grid1.coords t) j = true := by
    rw [Pipeline.Window.moved_iff]
    intro a
    have hx := xsize_val t
    fin_cases a
    · exact (j 0).isLt.trans_eq hx.1.symm
    · have h1 : (j 1).val < 2048 := (j 1).isLt
      exact lt_of_lt_of_eq (lt_min h1 (by omega : (j 1).val < 100000 - t.val * 2048)) hx.2.symm
  unfold Pipeline.Window.fill blkX
  rw [dif_pos hm, dif_pos h]
  have ho := off_val t
  refine congrArg Xa (funext fun a => Fin.ext ?_)
  fin_cases a
  · show (win1_0.rect t).off 0 + 1 * (j 0).val = (j 0).val
    rw [ho.1]; omega
  · show (win1_0.rect t).off 1 + 1 * (j 1).val = t.val * 2048 + (j 1).val
    rw [ho.2]; omega

/-- Off the last block nothing overhangs. -/
theorem fill_eq_full (Xa : S1024x100000.Idx → Elt F .f32) (t : Fin cfg1.N) (ht : t.val < 48) (d : S1024x2048.Idx → Elt F .f32) :
    win1_0.fill (grid1.coords t) d ((win1_0.blk t).view.read (Elt F) Xa) = blkX Xa t.val :=
  funext fun j => fill_eq Xa t d j (by have : (j 1).val < 2048 := (j 1).isLt; omega)

omit [FloatOps F] [Named F] in
/-- The choice under a mask sees a value only where the mask is set. -/
theorem select_congr_mask {e : EltTy} (c : BitVec 1) (a b z : Elt F e) (h : c = 1#1 → a = b) :
    Scalar.select c a z = Scalar.select c b z := by
  unfold Scalar.select
  split
  · exact h ‹_›
  · rfl

/-- The masked sum reads the columns inside the array only. -/
theorem pay3_congr (X Y : S1024x2048.Idx → Elt F .f32) (g : S1024x1.Idx → Elt F .f32)
    (h : ∀ j : S1024x2048.Idx, 48 * 2048 + (j 1).val < 100000 → X j = Y j) : k1_pay3 iLast X g = k1_pay3 iLast Y g := by
  have hmask : ∀ n : Fin 2048, IntOp.cmpi .slt (BitVec.ofNat 32 48 * 2048#32 + BitVec.ofNat 32 n.val) 100000#32 = 1#1 → 48 * 2048 + n.val < 100000 := by
    decide +kernel
  unfold k1_pay3
  dsimp only
  refine congrArg (fun Z => shapeCast S1024x1 (addf g (shapeCast S1024x1 (multiReduction FKind.add [1] S1024 Z _ _ _ _) _)) _) (funext fun j => ?_)
  refine select_congr_mask (F := F) (e := .f32) (cmpi _ _ _ j) (exp2 _ j) (exp2 _ j) (broadcast _ _ j) fun hc => ?_
  have hj := h j (hmask (j 1) ((by simp [cmpi, addi, broadcast, iota, Scalar.muli, IntOp.addi, IntOp.muli, coords_val] :
    (cmpi .slt (addi (broadcast S1024x2048 (Scalar.muli (BitVec.ofNat 32 (iLast 0).val) 2048#32)) (iota .tc S1024x2048 32 [1] iota_S1024x2048_d1_w32))
      (broadcast S1024x2048 100000#32) j) = IntOp.cmpi .slt (BitVec.ofNat 32 48 * 2048#32 + BitVec.ofNat 32 (j 1).val) 100000#32).symm.trans hc))
  show FloatOps.exp2 (FloatOps.subf (FloatOps.mulf (X j) _) _) = FloatOps.exp2 (FloatOps.subf (FloatOps.mulf (Y j) _) _)
  rw [hj]

theorem accT_lt (Xa : S1024x100000.Idx → Elt F .f32) (n : ℕ) (h : n < 48) : accT Xa (n + 1) = k1_pay2 (blkX Xa n) (accT Xa n) := by
  rw [accT, if_pos h]
theorem accT_last (Xa : S1024x100000.Idx → Elt F .f32) : accT Xa 49 = k1_pay3 iLast (blkX Xa 48) (accT Xa 48) := by
  rw [accT, if_neg (by decide)]

/-- What the last point adds, whatever stands in the staging buffer past the array's end. -/
theorem last_val (Xa : S1024x100000.Idx → Elt F .f32) (t : Fin cfg1.N) (ht : t.val = 48) (d : S1024x2048.Idx → Elt F .f32) :
    k1_pay3 (grid1.coords t) (win1_0.fill (grid1.coords t) d ((win1_0.blk t).view.read (Elt F) Xa)) (accT Xa t.val) = accT Xa 49 := by
  rw [accT_last, ht]
  obtain ⟨t, h⟩ := t
  obtain rfl : t = 48 := ht
  exact pay3_congr _ _ _ fun j hj => fill_eq Xa _ d j hj

/-! ## The proof data of the call, at an entry valuation -/

/-- A whole memref is its buffer. -/
theorem owns_pt (c : Dev nD) {sp : Space} {S : Shape} {e : EltTy} (M : Memref sig .tc sp S e) (hM : M.IsWhole) (X : S.Idx → Elt F e) :
    (owns (c : Thread nD τ) M fullShare X : sProp 𝕄) = iprop(∃ f, ⌜M.view.read (Elt F) f = X⌝ ∗ pt c M f) := by
  obtain ⟨b, hsp, hsh, he, h⟩ := hM
  subst hsp hsh he
  obtain rfl := eq_of_heq h
  unfold owns; simp only [Memref.view_whole, View.set_whole]

variable (V : (c : Dev nD) → (b : Ref sig .tc) → Buf (Elt F) ((c : Thread nD τ).loc b))

/-- The waits the thread has recorded when the calls of the TensorCore run. -/
abbrev rec0 (c : Dev nD) : Set (SemLoc sig × HIx 1) := {p | (ScTile.K (F := F)).lev (SparseCore.T c, p.1) p.2 ≤ 8 * 1}

/-- Window 0's block as the fetch leaves it, zero past the array's end. -/
abbrev stg (c : Dev nD) (t : Fin cfg1.N) : S1024x2048.Idx → Elt F .f32 :=
  win1_0.fill (grid1.coords t) (fun _ => Scalar.ofBits .f32 0x00000000#32) ((win1_0.blk t).view.read (Elt F) (V c main_arg0))

/-- The other call's staging buffers, at anything. -/
abbrev others (c : Dev nD) : sProp 𝕄 :=
  iprop((∃ f, (c : Thread nD τ).loc cc2_stg0_0 ↦{fullShare} f) ∗ (∃ f, (c : Thread nD τ).loc cc2_stg1_0 ↦{fullShare} f)
    ∗ (∃ f, (c : Thread nD τ).loc cc2_stg2_0 ↦{fullShare} f) ∗ (∃ f, (c : Thread nD τ).loc cc2_stg3_0 ↦{fullShare} f))

/-- The data: after `t` points the accumulator holds the sum over `t` blocks; the result's block is written at the last. -/
def dat1 (c : Dev nD) : Dat τ (Elt F) (HIx 1) ℕ UU ℕ cfg1 c where
  A w := V c (Pipeline.arrRef spec1 w)
  after w t := match w with
    | ⟨0, _⟩ => stg V c t
    | ⟨1, _⟩ => accT (V c main_arg0) 49
  Φ t := iprop((∃ g, ⌜t.val ≠ 0 → g = accT (V c main_arg0) t.val⌝ ∗ scr c g) ∗ others c)
  q _ := fullShare
  owed _ := 0
  recorded _ := rec0 (F := F) c

theorem before1_0 (c : Dev nD) (t : Fin cfg1.N) (d : (cfg1.win 0).block.Idx → Elt F (cfg1.win 0).elt) :
    (dat1 V c).before 0 t d = win1_0.fill (grid1.coords t) d ((win1_0.blk t).view.read (Elt F) (V c main_arg0)) := by
  unfold Dat.before; rw [if_pos (fetch1_0 t)]; rfl

theorem body1 (c : Dev nD) : BodyObligationLoose (dat1 V c) (defs₀ (F := F)) 𝒱₀ none Set.univ := fun t => by
  rw [bigSep_W1, bigSep_W1]
  simp only
  rw [show (dat1 V c).owesAt none t.succ = (dat1 V c).owesAt none t.castSucc from rfl]
  -- the first window's buffer comes back as it was: on the part inside the array it is the block
  have hcut : ∀ d0, (win1 0).fill (grid1.coords t) d0 ((win1 0).cut (grid1.coords t) ((dat1 V c).after 0 t))
      = win1_0.fill (grid1.coords t) d0 ((win1_0.blk t).view.read (Elt F) (V c main_arg0)) := fun d0 => congrArg _ (win1_0.cut_fill _ _ _)
  have hN : t.val < 49 := t.isLt.trans_eq N_1
  have hv : (grid1.coords t 0).val = t.val := coords_val t
  rw [show (dat1 V c).Φ t.castSucc = iprop((∃ g, ⌜t.val ≠ 0 → g = accT (V c main_arg0) t.val⌝ ∗ scr c g) ∗ others c) from rfl,
    show (dat1 V c).Φ t.succ = iprop((∃ g, ⌜t.val + 1 ≠ 0 → g = accT (V c main_arg0) (t.val + 1)⌝ ∗ scr c g) ∗ others c) from rfl]
  simp only [before1_0, hcut, owns_pt c (stage1_0 (cfg1.slots t 0)) (hstage1_0 _)]
  change _ ⊢ wp frame (wpE defs₀ 𝒱₀ c none) Set.univ (bodyAt1 t) _
  by_cases h48 : t.val < 48
  · have hidle : idle1 1 (grid1.coords t) = true := by
      have h4 : ¬ k1_cond4 (grid1.coords t) = 1#1 := mt (cond4_iff (grid1.coords t 0)).mp (by omega)
      simpa [idle1] using h4
    have hflush : (win1 1).flush t = false := by
      rw [← Bool.not_eq_true]; exact fun h => by have := (flush1_1 t).mp h; omega
    rw [hidle]; simp only; rw [hflush]; simp only
    iintro ⟨⟨⟨%g, %hg, Hs⟩, Hr⟩, Ho, ⟨%d0, %f0, %hf0, H0⟩, H1⟩
    by_cases h0 : t.val = 0
    · iapply (run_first c Set.univ (grid1.coords t) (by omega) (stage1_0 (cfg1.slots t 0)) (hstage1_0 _) (stage1_1 (cfg1.slots t 1)) (hstage1_1 _) f0 _ hf0 g _)
      isplitl [H0]; · iexact H0
      isplitl [Hs]; · iexact Hs
      iintro ⟨H0, Hs⟩
      isplitl [Hs Hr]
      · isplitl [Hs]; · (iexists _; isplitr; swap; (· iexact Hs); ipureintro; intro _; rw [fill_eq_full _ t h48, h0]; rfl)
        iexact Hr
      isplitl [Ho]; · iexact Ho
      isplitl [H0]; · (iexists d0; iexists f0; isplitr; (· ipureintro; exact hf0); iexact H0)
      iexact H1
    · iapply (run_mid c Set.univ (grid1.coords t) (by omega) (by omega) (stage1_0 (cfg1.slots t 0)) (hstage1_0 _) (stage1_1 (cfg1.slots t 1)) (hstage1_1 _) f0 _ hf0 g _)
      isplitl [H0]; · iexact H0
      isplitl [Hs]; · iexact Hs
      iintro ⟨H0, Hs⟩
      isplitl [Hs Hr]
      · isplitl [Hs]
        · iexists _; isplitr; swap; (· iexact Hs)
          ipureintro; intro _; rw [fill_eq_full _ t h48, hg h0, accT_lt _ _ h48]
        iexact Hr
      isplitl [Ho]; · iexact Ho
      isplitl [H0]; · (iexists d0; iexists f0; isplitr; (· ipureintro; exact hf0); iexact H0)
      iexact H1
  · have ht : t.val = 48 := by omega
    have hidle : idle1 1 (grid1.coords t) = false := by
      have h4 : k1_cond4 (grid1.coords t) = 1#1 := (cond4_iff (grid1.coords t 0)).mpr (by omega)
      simpa [idle1] using h4
    rw [hidle]; simp only
    simp only [owns_pt c (stage1_1 (cfg1.slots t 1)) (hstage1_1 _)]
    iintro ⟨⟨⟨%g, %hg, Hs⟩, Hr⟩, Ho, ⟨%d0, %f0, %hf0, H0⟩, ⟨%d1, %f1, -, H1⟩⟩
    iapply (run_last c Set.univ (grid1.coords t) (by omega) (stage1_0 (cfg1.slots t 0)) (hstage1_0 _) (stage1_1 (cfg1.slots t 1)) (hstage1_1 _) f0 _ hf0 f1 g _)
    have hval : k1_pay3 (grid1.coords t) (win1_0.fill (grid1.coords t) d0 ((win1_0.blk t).view.read (Elt F) (V c main_arg0))) g = accT (V c main_arg0) 49 := by
      rw [hg (by omega)]; exact last_val _ t (by omega) d0
    rw [hval]
    isplitl [H0]; · iexact H0
    isplitl [H1]; · iexact H1
    isplitl [Hs]; · iexact Hs
    iintro ⟨H0, ⟨%f, %hf, H1⟩, Hs⟩
    isplitl [Hs Hr]
    · isplitl [Hs]
      · iexists _; isplitr; swap; (· iexact Hs)
        ipureintro; intro _; rw [ht]
      iexact Hr
    isplitl [Ho]; · iexact Ho
    isplitl [H0]; · (iexists d0; iexists f0; isplitr; (· ipureintro; exact hf0); iexact H0)
    iexists f; isplitr; swap; (· iexact H1)
    ipureintro; exact hf

end Cert.Proof.Reduce

end
-- ==== Proof.Combine.lean ====
/-
  The TensorCore's second call: from the row sums, the gathered rows and the labels, the loss. It has no grid; this
  module runs its body once.
-/
module

public import proofs.«01_k».proof.Proof.Reduce

@[expose] public section

noncomputable section

namespace Cert.Proof.Combine

open Cert.KernelIdeal Cert.KernelIdeal.Gen
open Cert.Proof.ScTile (UU 𝒱₀)
open Cert.Proof.Reduce (pt owns_pt rec0)

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig (HIx 1) (Elt F) ℕ UU ℕ

/-- The loss, of the row sums, the gathered rows and the labels. -/
def loss (s : S1024x1.Idx → Elt F .f32) (g : S1024x128.Idx → Elt F .f32) (l : S1024x1.Idx → Elt F .i32) : S1x1.Idx → Elt F .f32 :=
  k2_pay1 (k2_pay2 s) (k2_pay4 g l) (k2_pay5 g l)

/-- The body: the three operands come back as they were and the result's block holds the loss. -/
theorem run (c : Dev nD) (E : Set ℕ)
    (M0 : Memref sig .tc .vmem S1024x1 .f32) (w0 : M0.IsWhole) (M1 : Memref sig .tc .vmem S1024x128 .f32) (w1 : M1.IsWhole)
    (M2 : Memref sig .tc .vmem S1024x1 .i32) (w2 : M2.IsWhole) (M3 : Memref sig .tc .vmem S1x1 .f32) (w3 : M3.IsWhole)
    (f0 : Buf (Elt F) (M0.view.loc (c : Thread nD τ))) (X0 : S1024x1.Idx → Elt F .f32) (hf0 : M0.view.read (Elt F) f0 = X0)
    (f1 : Buf (Elt F) (M1.view.loc (c : Thread nD τ))) (X1 : S1024x128.Idx → Elt F .f32) (hf1 : M1.view.read (Elt F) f1 = X1)
    (f2 : Buf (Elt F) (M2.view.loc (c : Thread nD τ))) (X2 : S1024x1.Idx → Elt F .i32) (hf2 : M2.view.read (Elt F) f2 = X2)
    (f3 : Buf (Elt F) (M3.view.loc (c : Thread nD τ))) (Q : PUnit → sProp 𝕄) :
    iprop(pt c M0 f0 ∗ pt c M1 f1 ∗ pt c M2 f2 ∗ pt c M3 f3
        ∗ (iprop(pt c M0 f0 ∗ pt c M1 f1 ∗ pt c M2 f2 ∗ (∃ f, ⌜M3.view.read (Elt F) f = loss X0 X1 X2⌝ ∗ pt c M3 f)) -∗ Q ⟨⟩))
      ⊢ wp frame (wpE (defs₀ (F := F)) 𝒱₀ c none) E (cc2__combine_kernel M0 w0 M1 w1 M2 w2 M3 w3) Q := by
  simp only [cc2__combine_kernel_eq_skeleton]; unfold cc2__combine_kernel_skel
  simp only [k2_part1_eq_skeleton]; unfold k2_part1_skel
  iintro ⟨H0, H1, H2, H3, Hk⟩
  sl_exec
  sl_step
  iapply Hk
  isplitl [H0]; · iexact H0
  isplitl [H1]; · iexact H1
  isplitl [H2]; · iexact H2
  iexists _
  isplitr; swap; (· iexact H3)
  ipureintro
  rw [View.read_writes_full, View.readAt_full, View.readAt_full, View.readAt_full, hf0, hf1, hf2]
  rfl

variable (V : (c : Dev nD) → (b : Ref sig .tc) → Buf (Elt F) ((c : Thread nD τ).loc b))

/-- The invariant: the scoped buffers the call does not stage. -/
abbrev Φc (c : Dev nD) : sProp 𝕄 := Pipeline.scopedRest (Ix := HIx 1) (Name := ℕ) (U := UU) (Lvl := ℕ) (Val := Elt F) spec2 c

/-- What each operand's staging buffer holds: its array. -/
abbrev stg0 (c : Dev nD) : S1024x1.Idx → Elt F .f32 := ((cfg2.win 0).blk t2_0).view.read (Elt F) (V c main_v2)
abbrev stg1 (c : Dev nD) : S1024x128.Idx → Elt F .f32 := ((cfg2.win 1).blk t2_0).view.read (Elt F) (V c main_v1)
abbrev stg2 (c : Dev nD) : S1024x1.Idx → Elt F .i32 := ((cfg2.win 2).blk t2_0).view.read (Elt F) (V c main_v3)

/-- The data of the call, at an entry valuation. -/
def dat2 (c : Dev nD) : Dat τ (Elt F) (HIx 1) ℕ UU ℕ cfg2 c where
  A w := V c (Pipeline.arrRef spec2 w)
  after w _ := match w with
    | ⟨0, _⟩ => stg0 V c
    | ⟨1, _⟩ => stg1 V c
    | ⟨2, _⟩ => stg2 V c
    | ⟨3, _⟩ => loss (stg0 V c) (stg1 V c) (stg2 V c)
  Φ _ := Φc c
  q _ := fullShare
  owed _ := 0
  recorded _ := rec0 (F := F) c

theorem before0 (c : Dev nD) (d : (cfg2.win 0).block.Idx → Elt F (cfg2.win 0).elt) : (dat2 V c).before 0 t2_0 d = stg0 V c := by
  unfold Dat.before; rw [if_pos (fetch2_0 _)]; rfl
theorem before1 (c : Dev nD) (d : (cfg2.win 1).block.Idx → Elt F (cfg2.win 1).elt) : (dat2 V c).before 1 t2_0 d = stg1 V c := by
  unfold Dat.before; rw [if_pos (fetch2_1 _)]; rfl
theorem before2 (c : Dev nD) (d : (cfg2.win 2).block.Idx → Elt F (cfg2.win 2).elt) : (dat2 V c).before 2 t2_0 d = stg2 V c := by
  unfold Dat.before; rw [if_pos (fetch2_2 _)]; rfl

theorem body2 (c : Dev nD) : BodyObligation (dat2 V c) (defs₀ (F := F)) 𝒱₀ none Set.univ := fun t => by
  obtain rfl := fin_N2 t
  rw [bigSep_W2, bigSep_W2]
  simp only [before0, before1, before2]
  rw [show (dat2 V c).owesAt none t2_0.succ = (dat2 V c).owesAt none t2_0.castSucc from rfl,
    show (dat2 V c).Φ t2_0.castSucc = Φc c from rfl, show (dat2 V c).Φ t2_0.succ = Φc c from rfl]
  simp only [owns_whole_eq]
  change _ ⊢ wp frame (wpE defs₀ 𝒱₀ c none) Set.univ (bodyAt2 t2_0) _
  iintro ⟨HΦ, Ho, ⟨%d0, %f0, %hf0, H0⟩, ⟨%d1, %f1, %hf1, H1⟩, ⟨%d2, %f2, %hf2, H2⟩, ⟨%d3, %f3, -, H3⟩⟩
  iapply (run c Set.univ (stage2_0 0) (hstage2_0 0) (stage2_1 0) (hstage2_1 0)
    (stage2_2 0) (hstage2_2 0) (stage2_3 0) (hstage2_3 0) f0 _ hf0 f1 _ hf1 f2 _ hf2 f3 _)
  isplitl [H0]; · iexact H0
  isplitl [H1]; · iexact H1
  isplitl [H2]; · iexact H2
  isplitl [H3]; · iexact H3
  iintro ⟨H0, H1, H2, ⟨%f, %hf, H3⟩⟩
  isplitl [HΦ]; · iexact HΦ
  isplitl [Ho]; · iexact Ho
  isplitl [H0]; · (iexists f0; isplitr; (· ipureintro; exact hf0); iexact H0)
  isplitl [H1]; · (iexists f1; isplitr; (· ipureintro; exact hf1); iexact H1)
  isplitl [H2]; · (iexists f2; isplitr; (· ipureintro; exact hf2); iexact H2)
  iexists f; isplitr; (· ipureintro; exact hf)
  iexact H3

end Cert.Proof.Combine

end
-- ==== Proof.Regions.lean ====
/-
  The two calls of the TensorCore as regions of the program: each is entered with every array of the TensorCore at some
  contents and left with the result's array at what the call computes and the others as they were.
-/
module

public import proofs.«01_k».proof.Proof.Combine
public import Idealize.ShloMosaic.Lib.Pipeline.ValueKit

@[expose] public section

noncomputable section

namespace Cert.Proof.Regions

open Cert.KernelIdeal Cert.KernelIdeal.Gen
open Cert.Proof.ScTile (UU 𝒱₀)
open Cert.Proof.Reduce (pt owns_pt rec0 dat1 body1 accT others scr)
open Cert.Proof.Combine (dat2 body2 loss)

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig (HIx 1) (Elt F) ℕ UU ℕ

variable (V : (c : Dev nD) → (b : Ref sig .tc) → Buf (Elt F) ((c : Thread nD τ).loc b))

/-- The last of the 49 points. -/
abbrev tLast : Fin cfg1.N := ⟨48, by decide⟩

/-- The row sums' array after the first call. -/
theorem arr1 (c : Dev nD) : (dat1 V c).arrAt 1 cfg1.N = accT (V c main_arg0) 49 := by
  refine (dat1 V c).arrAt_eq_of_after_last 1 tLast (by decide +kernel) _ fun j => ?_
  blk_simp
  rfl

theorem stg0_eq (c : Dev nD) : Combine.stg0 V c = V c main_v2 := by
  funext j; refine congrArg (V c main_v2) (funext fun a => Fin.ext ?_); fin_cases a <;> simp <;> rfl
theorem stg1_eq (c : Dev nD) : Combine.stg1 V c = V c main_v1 := by
  funext j; refine congrArg (V c main_v1) (funext fun a => Fin.ext ?_); fin_cases a <;> simp <;> rfl
theorem stg2_eq (c : Dev nD) : Combine.stg2 V c = V c main_v3 := by
  funext j; refine congrArg (V c main_v3) (funext fun a => Fin.ext ?_); fin_cases a <;> simp <;> rfl

/-- The loss's array after the second call. -/
theorem arr2 (c : Dev nD) : (dat2 V c).arrAt 3 cfg2.N = loss (V c main_v2) (V c main_v1) (V c main_v3) := by
  refine (dat2 V c).arrAt_eq_of_after_last 3 t2_0 (by decide +kernel) _ fun j => ?_
  blk_simp
  rw [← stg0_eq V c, ← stg1_eq V c, ← stg2_eq V c]
  rfl

/-! ## The regions -/

/-- Neither call prefetches a table. -/
abbrev adm : (p : Fin 2) → (pcfgs (F := F) p).Adm := fun p => (cfgs p).toPCfg_adm

/-- Both calls' proof data at an entry valuation. -/
def pdats : (p : Fin 2) → (c : Dev nD) → Dat τ (Elt F) (HIx 1) ℕ UU ℕ (Pipeline.pin (pcfgs (F := F)) adm p) c
  | ⟨0, _⟩ => fun c => dat1 V c
  | ⟨1, _⟩ => fun c => dat2 V c

/-- No core owes another anything in these calls: no level is assigned. -/
abbrev L : GSem nD τ sig → Finset (HIx 1) := fun _ => ∅
abbrev lv : GSem nD τ sig → HIx 1 → ℕ := fun _ _ => 0

/-- The thread's `owes` between the calls: nothing, with the waits recorded so far below the next call's. -/
abbrev idleOwes (c : Dev nD) : sProp 𝕄 := iprop(∃ W : Waits sig (HIx 1), ⌜(↑W : Set (SemLoc sig × HIx 1)) ⊆ rec0 (F := F) c⌝ ∗ owes (c : Thread nD τ) (0 : CellTallies nD τ sig (HIx 1)) W)

theorem waitPairs_rec0 {cfg : Pipeline.Cfg sig Λ₀} (c : Dev nD) : cfg.waitPairs (none : HIx 1) ⊆ rec0 (F := F) c := by
  rintro p ⟨w, s, rfl⟩
  show (ScTile.K (F := F)).lev _ none ≤ _
  exact Nat.zero_le _

variable (Vp : (c : Dev nD) → (b : Ref sig .tc) → Buf (Elt F) ((c : Thread nD τ).loc b))

set_option backward.isDefEq.respectTransparency.types false in
/-- The first call: entered at `V`, left at any `Vp` that has the row sums in `main_v2` and is `V` elsewhere. -/
def reg1 (R : Dev nD → sProp 𝕄) (hout : ∀ c, Vp c main_v2 = accT (V c main_arg0) 49)
    (hne : ∀ c (b : Ref sig .tc), b ≠ main_v2 → Vp c b = V c b) :
    Pipeline.RegionSeg (pcfgs (F := F)) adm (pdats V) (none : HIx 1) defs₀ 𝒱₀ L lv 0 where
  win := launch1.win.to₀
  block_pos := launch1.block_pos
  stage_whole := launch1.stage_whole
  K := PEmpty
  osem k := k.elim
  ho := Pipeline.OwnSemFacts.none _
  hbody c := body1 V c
  hwaits := Pipeline.hwaits_of_owed_zero _ _ _ _ L lv 0 fun _ _ => rfl
  pre c := iprop(unscopedBufs c (V c) ∗ R c ∗ idleOwes c)
  post c := iprop(unscopedBufs c (Vp c) ∗ R c ∗ idleOwes c)
  X _ := BI.emp
  Y _ := BI.emp
  Z c := iprop(Pipeline.unscopedRest (Ix := HIx 1) (Name := ℕ) (U := UU) (Lvl := ℕ) spec1 c (V c) ∗ R c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitr; · iempintro
    isplitl [Hrest] <;> iassumption
  hin c := by
    rw [show (pdats V 0 c).Φ 0 = iprop((∃ g, ⌜(0 : ℕ) ≠ 0 → g = accT (V c main_arg0) 0⌝ ∗ scr c g) ∗ others c) from rfl]
    rw [show (Pipeline.pin (pcfgs (F := F)) adm 0).spec = spec1 from rfl, scopedRest1_eq]
    iintro ⟨-, -, ⟨%g, Hs⟩, Hr⟩
    isplitl [Hs]
    · iexists g; isplitr; · (ipureintro; intro h; exact absurd rfl h)
      iexact Hs
    iexact Hr
  hout c := by
    rw [Pipeline.ownSems0_none, show (pdats V 0 c).Φ (Fin.last _) = iprop((∃ g, ⌜(49 : ℕ) ≠ 0 → g = accT (V c main_arg0) 49⌝ ∗ scr c g) ∗ others c) from rfl]
    rw [show (Pipeline.pin (pcfgs (F := F)) adm 0).spec = spec1 from rfl, scopedRest1_eq]
    iintro ⟨⟨%g, -, Hs⟩, Hr⟩
    isplitr; · iempintro
    isplitr; · iempintro
    isplitl [Hs]; · (iexists g; iexact Hs)
    iexact Hr
  hexit c := by
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (V c) (Vp c) ((pdats V 0 c).arrAt · cfg1.N)
      (fun w => by
        fin_cases w
        · exact ((pdats V 0 c).arrAt_in 0 rfl _).trans (hne c main_arg0 (by decide)).symm
        · exact (arr1 V c).trans (hout c).symm)
      (fun b hb => hne c b fun h => hb (h ▸ Finset.mem_image.mpr ⟨1, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W; isplitr
    · ipureintro; exact fun p hp => (hW hp).elim id fun h => waitPairs_rec0 (F := F) c h
    iexact HO

set_option backward.isDefEq.respectTransparency.types false in
/-- The second call: entered at `V`, left at any `Vp` that has the loss in `main_v4` and is `V` elsewhere. -/
def reg2 (R : Dev nD → sProp 𝕄) (hout : ∀ c, Vp c main_v4 = loss (V c main_v2) (V c main_v1) (V c main_v3))
    (hne : ∀ c (b : Ref sig .tc), b ≠ main_v4 → Vp c b = V c b) :
    Pipeline.RegionSeg (pcfgs (F := F)) adm (pdats V) (none : HIx 1) defs₀ 𝒱₀ L lv 1 where
  win := launch2.win.to₀
  block_pos := launch2.block_pos
  stage_whole := launch2.stage_whole
  K := PEmpty
  osem k := k.elim
  ho := Pipeline.OwnSemFacts.none _
  hbody c := (body2 V c).loose
  hwaits := Pipeline.hwaits_of_owed_zero _ _ _ _ L lv 1 fun _ _ => rfl
  pre c := iprop(unscopedBufs c (V c) ∗ R c ∗ idleOwes c)
  post c := iprop(unscopedBufs c (Vp c) ∗ R c ∗ idleOwes c)
  X _ := BI.emp
  Y _ := BI.emp
  Z c := iprop(Pipeline.unscopedRest (Ix := HIx 1) (Name := ℕ) (U := UU) (Lvl := ℕ) spec2 c (V c) ∗ R c)
  hentry c := by
    rw [Pipeline.ownSems0_none]
    have hsplit := Pipeline.arrays_of_unscopedBufs (p := 1) (pcfgs (F := F)) adm (pdats V) launch2.win launch2.arr_whole c
      ((pdats V 1 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitr; · iempintro
    isplitl [Hrest] <;> iassumption
  hin c := by
    rw [show (pdats V 1 c).Φ 0 = Combine.Φc c from rfl]
    iintro ⟨-, -, Hr⟩; iexact Hr
  hout c := by
    rw [Pipeline.ownSems0_none, show (pdats V 1 c).Φ (Fin.last _) = Combine.Φc c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch2.win launch2.arr_whole c
      (pdats V) ((pdats V 1 c).share_full fun _ => rfl) (V c) (Vp c) ((pdats V 1 c).arrAt · cfg2.N)
      (fun w => by
        fin_cases w
        · exact ((pdats V 1 c).arrAt_in 0 rfl _).trans (hne c main_v2 (by decide)).symm
        · exact ((pdats V 1 c).arrAt_in 1 rfl _).trans (hne c main_v1 (by decide)).symm
        · exact ((pdats V 1 c).arrAt_in 2 rfl _).trans (hne c main_v3 (by decide)).symm
        · exact (arr2 V c).trans (hout c).symm)
      (fun b hb => hne c b fun h => hb (h ▸ Finset.mem_image.mpr ⟨3, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W; isplitr
    · ipureintro; exact fun p hp => (hW hp).elim id fun h => waitPairs_rec0 (F := F) c h
    iexact HO

end Cert.Proof.Regions

end
-- ==== Proof.ScCall.lean ====
/-
  The SparseCore call as a whole: what its handshakes carry, the obligation of each task (the task's body, ScTile.lean),
  and how the three arrays split over the two SparseCores' thirty-two tasks and come together again.
-/
module

public import proofs.«01_k».proof.Proof.ScTile

@[expose] public section

noncomputable section

namespace Cert.Proof.ScTile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)

variable {F : FTy → Type} [FloatOps F] [Named F]

local notation "𝕄" => MT nD τ sig (HIx 1) (Elt F) ℕ UU ℕ
local notation "tV" => (Memref.whole Cert.KernelIdeal.main_v0_scv : Memref Cert.KernelIdeal.sig Kind.scVector Space.hbm Cert.KernelIdeal.S800000x128 EltTy.f32)
local notation "lV" => (Memref.whole Cert.KernelIdeal.main_arg1_scv : Memref Cert.KernelIdeal.sig Kind.scVector Space.hbm Cert.KernelIdeal.S1024 EltTy.i32)
local notation "oV" => (Memref.whole Cert.KernelIdeal.main_v1_scv : Memref Cert.KernelIdeal.sig Kind.scVector Space.hbm Cert.KernelIdeal.S1024x128 EltTy.f32)
local notation "sV" => (Memref.whole Cert.KernelIdeal.cc0_scratch0 : Memref Cert.KernelIdeal.sig Kind.scVector Space.vmem Cert.KernelIdeal.S32 EltTy.i32)
local notation "xV" => (Memref.whole Cert.KernelIdeal.cc0_scratch1 : Memref Cert.KernelIdeal.sig Kind.scVector Space.vmem Cert.KernelIdeal.S32 EltTy.i32)
local notation "rV" => (Memref.whole Cert.KernelIdeal.cc0_scratch2 : Memref Cert.KernelIdeal.sig Kind.scVector Space.vmem Cert.KernelIdeal.S32x128 EltTy.f32)

variable (m : (ℓ : Loc nD τ sig) → Buf (Elt F) ℓ) (tb : (d : Dev nD) → Buf (Elt F) (tLoc d))

/-- The task on SparseCore `c`, tile `i`. -/
def tid (c : Fin 2) (i : Fin 16) : Fin 32 := ⟨2 * i.val + c.val, by omega⟩

/-- Every task is one SparseCore's one tile's. -/
def tidEquiv : Fin 2 × Fin 16 ≃ Fin 32 where
  toFun p := tid p.1 p.2
  invFun k := (⟨k.val % 2, by omega⟩, ⟨k.val / 2, by omega⟩)
  left_inv p := by
    obtain ⟨c, i⟩ := p
    refine Prod.ext (Fin.ext ?_) (Fin.ext ?_) <;> simp only [tid] <;> omega
  right_inv k := Fin.ext (by simp only [tid]; omega)

/-- What a task is handed, and what it hands back. -/
abbrev taskIn (d : Dev nD) (k : Fin 32) : sProp 𝕄 := iprop(lRowPts m d k ∗ tShPts tb d k ∗ oRowPts d k (m (oLoc d)))
abbrev taskOut (d : Dev nD) (k : Fin 32) : sProp 𝕄 := iprop(lRowPts m d k ∗ tShPts tb d k ∗ oRowPts d k (outC m tb d))

/-- The call hands each SparseCore its tiles' pieces, each task its own, and takes them back, the result's rows at the
    gathered ones. -/
def P : (K (F := F)).Pay (nD := nD) (Val := Elt F) (Name := ℕ) (U := UU) where
  st := fun q d c => match q with | 0 => bigSep Finset.univ fun i : Fin 16 => taskIn m tb d (tid (Fin.cast nCore_zero c) i)
  dn := fun q d c => match q with | 0 => bigSep Finset.univ fun i : Fin 16 => taskOut m tb d (tid (Fin.cast nCore_zero c) i)
  go := fun q d c i => match q with | 0 => taskIn m tb d (tid (Fin.cast nCore_zero c) (Fin.cast nSub_zero i))
  td := fun q d c i => match q with | 0 => taskOut m tb d (tid (Fin.cast nCore_zero c) (Fin.cast nSub_zero i))
  x := fun _ _ => iprop(emp)

instance P_storable : (P (F := F) m tb).IsStorable where
  st q d c := match q with
    | 0 => (inferInstance : BI.Storable (upEmb : UEmb _ 𝕄) (bigSep Finset.univ fun i : Fin 16 => taskIn m tb d (tid (Fin.cast nCore_zero c) i)))
  dn q d c := match q with
    | 0 => (inferInstance : BI.Storable (upEmb : UEmb _ 𝕄) (bigSep Finset.univ fun i : Fin 16 => taskOut m tb d (tid (Fin.cast nCore_zero c) i)))
  go q d c i := match q with
    | 0 => (inferInstance : BI.Storable (upEmb : UEmb _ 𝕄) (taskIn m tb d (tid (Fin.cast nCore_zero c) (Fin.cast nSub_zero i))))
  td q d c i := match q with
    | 0 => (inferInstance : BI.Storable (upEmb : UEmb _ 𝕄) (taskOut m tb d (tid (Fin.cast nCore_zero c) (Fin.cast nSub_zero i))))

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather_kernel (coordsV c s)
          tV (Memref.isWhole_whole _) lV (Memref.isWhole_whole _) oV (Memref.isWhole_whole _)
          sV (Memref.isWhole_whole _) xV (Memref.isWhole_whole _) rV (Memref.isWhole_whole _) cc0_scratch3 cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m tb) v₀ 0 := by
  intro d c i O W hO _ _
  simp only [show (P m tb).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m tb d (coordsV ⟨_, hci.1⟩ ⟨_, hci.2⟩) hF hpre O W hO).trans (wp_mono frame _ _ fun _ => obl_post)

/-! ## The pieces and the whole arrays -/

theorem lRowSet_eq (i : Fin 32) : lRowSet i = (lrow i).set := by
  show ((View.whole (main_arg1_scv : Ref sig .scVector)).slice (lrow i)).set = _
  rw [View.set_slice]; exact Finset.map_refl
theorem oRowSet_eq (i : Fin 32) : oRowSet i = (orow i).set := by
  show ((View.whole (main_v1_scv : Ref sig .scVector)).slice (orow i)).set = _
  rw [View.set_slice]; exact Finset.map_refl
theorem lrows_disjoint : ∀ i ∈ (Finset.univ : Finset (Fin 32)), ∀ j ∈ (Finset.univ : Finset (Fin 32)), i ≠ j → Disjoint (lRowSet i) (lRowSet j) :=
  fun i _ j _ h => by rw [lRowSet_eq, lRowSet_eq]; exact Rect.part_disjoint ldiv h
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
theorem lrows_cover : (Finset.univ : Finset (Fin 32)).biUnion lRowSet = Finset.univ :=
  (Finset.biUnion_congr rfl fun i _ => lRowSet_eq i).trans (Rect.biUnion_part ldiv)
theorem orows_cover : (Finset.univ : Finset (Fin 32)).biUnion oRowSet = Finset.univ :=
  (Finset.biUnion_congr rfl fun i _ => oRowSet_eq i).trans (Rect.biUnion_part odiv)

theorem lPts_rows (d : Dev nD) (f : Buf (Elt F) (lLoc d)) :
    (lLoc d ↦{fullShare} f : sProp 𝕄) = bigSep Finset.univ fun i : Fin 32 => lLoc d ↦[lRowSet i]{fullShare} f := by
  rw [← pointsTo_biUnion Finset.univ (ℓ := lLoc d) lRowSet lrows_disjoint, lrows_cover]; try rfl
theorem oPts_rows (d : Dev nD) (f : Buf (Elt F) (oLoc d)) :
    (oLoc d ↦{fullShare} f : sProp 𝕄) = bigSep Finset.univ fun i : Fin 32 => oLoc d ↦[oRowSet i]{fullShare} f := by
  rw [← pointsTo_biUnion Finset.univ (ℓ := oLoc d) oRowSet orows_disjoint, orows_cover]; try rfl
theorem tPts_shares (d : Dev nD) (f : Buf (Elt F) (tLoc d)) :
    (tLoc d ↦{fullShare} f : sProp 𝕄) = bigSep Finset.univ fun i : Fin 32 => tLoc d ↦{tq i} f :=
  pointsTo_leaves Finset.univ f 5 fullShare

/-- Pieces per SparseCore and tile are pieces per task. -/
theorem bigSep_tid (Φ : Fin 32 → sProp 𝕄) :
    (bigSep Finset.univ fun c : Fin ((K (F := F)).nCore 0) => bigSep Finset.univ fun i : Fin 16 => Φ (tid (Fin.cast nCore_zero c) i))
      = bigSep Finset.univ Φ := by
  rw [bigSep_univ_equiv tidEquiv Φ]
  exact (bigSep_univ_prod (fun p : Fin 2 × Fin 16 => Φ (tidEquiv p))).symm

/-- Before the call: the three arrays whole are every SparseCore's pieces. -/
theorem st0_eq (d : Dev nD) : (bigSep Finset.univ fun c : Fin ((K (F := F)).nCore 0) => (P m tb).st 0 d c)
    = iprop((lLoc d ↦{fullShare} m (lLoc d)) ∗ (tLoc d ↦{fullShare} tb d) ∗ oLoc d ↦{fullShare} m (oLoc d)) := by
  rw [lPts_rows, tPts_shares, oPts_rows, ← bigSep_sep', ← bigSep_sep']
  exact bigSep_tid (fun k => taskIn m tb d k)
/-- After it, the result at the gathered rows. -/
theorem dn0_eq (d : Dev nD) : (bigSep Finset.univ fun c : Fin ((K (F := F)).nCore 0) => (P m tb).dn 0 d c)
    = iprop((lLoc d ↦{fullShare} m (lLoc d)) ∗ (tLoc d ↦{fullShare} tb d) ∗ oLoc d ↦{fullShare} outC m tb d) := by
  rw [lPts_rows, tPts_shares, oPts_rows, ← bigSep_sep', ← bigSep_sep']
  exact bigSep_tid (fun k => taskOut m tb d k)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m tb) 0 := by
  intro d c
  show (bigSep Finset.univ fun i : Fin 16 => taskIn m tb d (tid (Fin.cast nCore_zero c) i)) ⊢ |={Set.univ}=> iprop(
      (bigSep Finset.univ fun i : Fin ((K (F := F)).nSub 0) => taskIn m tb d (tid (Fin.cast nCore_zero c) (Fin.cast nSub_zero i)))
      ∗ ((bigSep Finset.univ fun i : Fin ((K (F := F)).nSub 0) => taskOut m tb d (tid (Fin.cast nCore_zero c) (Fin.cast nSub_zero i)))
          -∗ bigSep Finset.univ fun i : Fin 16 => taskOut m tb d (tid (Fin.cast nCore_zero c) i)))
  rw [bigSep_tasks (F := F) (fun i => taskIn m tb d (tid (Fin.cast nCore_zero c) i)),
    bigSep_tasks (F := F) (fun i => taskOut m tb d (tid (Fin.cast nCore_zero c) i))]
  iintro H; imodintro
  isplitl [H]; · iexact H
  iintro H; iexact H

end Cert.Proof.ScTile
-- ==== Proof.Main.lean ====
/-
  The program's run: @main on the TensorCore — a reshape to the table, the SparseCore's call, the row sums, a reshape of the
  labels, the loss, a reshape to the result — at the contents that every array takes, and from it the run of the whole mesh.
-/
module

public import proofs.«01_k».proof.Proof.Regions
public import proofs.«01_k».proof.Proof.ScCall

@[expose] public section

noncomputable section

namespace Cert.Proof.Main

open Cert.KernelIdeal Cert.KernelIdeal.Gen
open Cert.Proof.ScTile
open Cert.Proof.Regions (adm pdats L lv idleOwes reg1 reg2)
open Cert.Proof.Reduce (accT rec0)
open Cert.Proof.Combine (loss)

open Idealize.ShloMosaic
open Idealize.ShloMosaic.StableHlo (held wp_hlo_within)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The pipelines' ghost state -/

/-- The pipelines' rounds in the certificate's resource algebra. -/
def EP : Emb (URounds (GSem nD τ sig) Unit) (MT nD τ sig (HIx 1) (Elt F) ℕ UU ℕ) :=
  ((Emb.inl : Emb (URounds (GSem nD τ sig) Unit) (URounds (GSem nD τ sig) Unit × Counters)).trans (Emb.inr : Emb _ UU)).trans (uEmb (nD := nD) (τ := τ) (sig := sig)).toEmb

instance EP_landsIn : (EP (F := F)).LandsIn (upEmb : UEmb _ 𝕄) := by unfold EP; infer_instance

/-! ## What each array holds as @main goes -/

variable (m : (ℓ : Loc nD τ sig) → Buf (Elt F) ℓ) (ρ : Dev nD → PrngReg)

abbrev r0 : DevRef τ sig := Proc.devRef .tc main_arg0
abbrev r1 : DevRef τ sig := Proc.devRef .tc main_arg1
abbrev rv0 : DevRef τ sig := Proc.devRef .tc main_v0
abbrev rv1 : DevRef τ sig := Proc.devRef .tc main_v1
abbrev rv2 : DevRef τ sig := Proc.devRef .tc main_v2
abbrev rv3 : DevRef τ sig := Proc.devRef .tc main_v3
abbrev rv4 : DevRef τ sig := Proc.devRef .tc main_v4
abbrev rv5 : DevRef τ sig := Proc.devRef .tc main_v5

abbrev op1 : HloOp τ sig (Elt F) := StableHlo.reshape main_arg0 main_v0 (rfl : (.f32 : EltTy) = .f32) shapeCasts_S1024x100000_S800000x128
abbrev op2 : HloOp τ sig (Elt F) := StableHlo.reshape main_arg1 main_v3 (rfl : (.i32 : EltTy) = .i32) shapeCasts_S1024_S1024x1
abbrev op3 : HloOp τ sig (Elt F) := StableHlo.reshape main_v4 main_v5 (rfl : (.f32 : EltTy) = .f32) shapeCasts_S1x1_S_

/-- At launch; -/
def W0 (d : Dev nD) : Valuation τ sig (Elt F) := fun b => m (d, b)
/-- with the table; -/
def W1 (d : Dev nD) : Valuation τ sig (Elt F) := (op1 (F := F)).result (W0 m d)
/-- with the gathered rows; -/
def W2 (d : Dev nD) : Valuation τ sig (Elt F) := Function.update (W1 m d) rv1 (gathered (W1 m d rv0) (m (lLoc d)))
/-- with the row sums; -/
def W3 (d : Dev nD) : Valuation τ sig (Elt F) := Function.update (W2 m d) rv2 (accT (W2 m d r0) 49)
/-- with the labels as a column; -/
def W4 (d : Dev nD) : Valuation τ sig (Elt F) := (op2 (F := F)).result (W3 m d)
/-- with the loss; -/
def W5 (d : Dev nD) : Valuation τ sig (Elt F) := Function.update (W4 m d) rv4 (loss (W4 m d rv2) (W4 m d rv1) (W4 m d rv3))
/-- with the result. -/
def W6 (d : Dev nD) : Valuation τ sig (Elt F) := (op3 (F := F)).result (W5 m d)

/-- A valuation read at the TensorCore's references. -/
abbrev tcV (W : Dev nD → Valuation τ sig (Elt F)) : (c : Dev nD) → (b : Ref sig .tc) → Buf (Elt F) ((SparseCore.T (τ := τ) c).loc b) := fun c b => W c (Proc.devRef .tc b)

/-! ## Holding the arrays -/

/-- The TensorCore's arrays, all but the scoped ones. -/
def ucRefs : Finset (DevRef τ sig) := (StableHlo.tcRefs τ sig).filter fun b => ¬ b.isScoped

theorem unscoped_held (c : Dev nD) (W : Valuation τ sig (Elt F)) :
    (unscopedBufs c (fun b => W (Proc.devRef .tc b)) : sProp 𝕄) = held (SparseCore.T c) ucRefs W := by
  unfold unscopedBufs StableHlo.held ucRefs StableHlo.tcRefs
  rw [Finset.filter_map, bigSep_map]
  rfl

theorem unscoped_eq (d : Dev nD) (W : (b : Ref sig .tc) → Buf (Elt F) ((SparseCore.T d : Thread nD τ).loc b)) :
    (unscopedBufs d W : sProp 𝕄) = iprop(((SparseCore.T d).loc main_arg0 ↦{fullShare} W main_arg0) ∗ (lLoc d ↦{fullShare} W main_arg1) ∗ (tLoc d ↦{fullShare} W main_v0)
      ∗ (oLoc d ↦{fullShare} W main_v1) ∗ ((SparseCore.T d).loc main_v2 ↦{fullShare} W main_v2) ∗ ((SparseCore.T d).loc main_v3 ↦{fullShare} W main_v3)
      ∗ ((SparseCore.T d).loc main_v4 ↦{fullShare} W main_v4) ∗ (SparseCore.T d).loc main_v5 ↦{fullShare} W main_v5) := by
  unfold unscopedBufs
  rw [show (Finset.univ.filter fun b : Ref sig .tc => ¬ b.isScoped) = {main_arg0, main_arg1, main_v0, main_v1, main_v2, main_v3, main_v4, main_v5} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-! ## The calls of the TensorCore inside @main -/

theorem levAts_nil : (emp : sProp 𝕄) ⊢ levAts (nD := nD) (τ := τ) (sig := sig) L lv := by
  unfold levAts
  simp only [bigSep_empty, bigSep_emp_const]
  exact .refl

/-- The launch's ghost state of one call. -/
abbrev ghost (p : Fin 2) (d : Dev nD) : sProp 𝕄 :=
  iprop(Pipeline.cellsGhost (Pipeline.pin (pcfgs (F := F)) adm) EP p d ∗ Pipeline.toksInit (Pipeline.pin (pcfgs (F := F)) adm) EP p d)

/-- A call run in @main: from the state it is entered from to the state it leaves. -/
theorem wp_region [∀ e, Nonempty (Elt F e)] (V : (c : Dev nD) → (b : Ref sig .tc) → Buf (Elt F) ((SparseCore.T c).loc b)) {p : Fin 2}
    (R : Pipeline.RegionSeg (pcfgs (F := F)) adm (pdats V) (none : HIx 1) defs₀ 𝒱₀ L lv p) (d : Dev nD) (Q : PUnit → sProp 𝕄) :
    iprop((iprop(boundary (SparseCore.T d) ∗ R.post d) -∗ Q ⟨⟩) ∗ boundary (SparseCore.T d) ∗ R.pre d ∗ ghost p d)
      ⊢ wp frame (wpE ((K (F := F)).defs (D (F := F))) 𝒱 (SparseCore.T d) none) Set.univ (Prog.lift (.customCall (SparseCore.inner (Pipeline.entry p)) ())) Q := by
  refine BIBase.Entails.trans ?_ ((K (F := F)).wp_liftProg (D (F := F)) 𝒱 (SparseCore.T d) Set.univ none (Prog.lift (.customCall (Pipeline.entry p) ())) Q)
  refine BIBase.Entails.trans ?_ (R.wp (pcfgs (F := F)) adm (pdats V) none cellOf_inj EP defs₀ 𝒱₀ L lv d none (fun _ h => nomatch h) (fun x => .ret x) Q)
  iintro ⟨Hk, Hb, Hpre, Hg, Ht⟩
  isplitl [Hk]
  · iintro H
    rw [wp_ret]
    imodintro
    iapply Hk; iexact H
  isplitl [Hb]; · iexact Hb
  isplitl [Hpre]; · iexact Hpre
  isplitr; · iapply levAts_nil; iempintro
  isplitl [Hg] <;> iassumption

/-! ## The launch's ghost state -/

/-- What the launch's element holds: the handshake cells' rounds, and the pipelines'. -/
def u₀ : UU :=
  (initOf (K (F := F)).hsCells (K (F := F)).hsToks, (initOf (Pipeline.cells (nD := nD) (τ := τ) cfgs cellOf_inj) (Pipeline.launchToks (nD := nD) (τ := τ) cfgs cellOf_inj), 1))

theorem ownU_split (a : URounds (GSem nD τ sig) ℕ) (b : URounds (GSem nD τ sig) Unit) :
    (ownU ((a, (b, 1)) : UU) : sProp 𝕄) ⊢ iprop(BI.own ((EH (F := F)) a) ∗ BI.own ((EP (F := F)) b)) :=
  BI.own_op_elim ((uEmb (nD := nD) (τ := τ) (sig := sig) (Ix := HIx 1) (Val := Elt F) (Name := ℕ) (U := UU) (Lvl := ℕ)).toEmb.op_of_mem
    (Prod.mk_mem_op (URA.mem_op_one a) (URA.mem_one_op (b, 1))))

abbrev tab (d : Dev nD) : Buf (Elt F) (tLoc d) := W1 m d rv0

/-- What a device takes from the launch: its two calls' ghost state. -/
abbrev G (d : Dev nD) : sProp 𝕄 := iprop(ghost 0 d ∗ ghost 1 d)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m (tab m)).x q thr) := by
  have hG : iprop((bigSep Finset.univ fun c : Dev nD => bigSep Finset.univ fun p => Pipeline.cellsGhost (cfgs) (EP (F := F)) p c)
      ∗ (bigSep Finset.univ fun c : Dev nD => bigSep Finset.univ fun p => (Pipeline.toksInit (cfgs) EP p c : sProp 𝕄)))
      = bigSep Finset.univ fun d : Dev nD => G (F := F) d := by
    rw [← bigSep_sep']
    refine bigSep_congr fun d _ => ?_
    rw [← bigSep_sep', show (Finset.univ : Finset (Fin 2)) = {0, 1} by decide, SparseCore.bigSep_insert' (by decide), bigSep_singleton]
  have hx : (bigSep Finset.univ fun thr : Thread nD τ => bigSep Finset.univ fun q : Fin 1 => (P m (tab m)).x q thr) = (iprop(emp) : sProp 𝕄) := by
    unfold P; dsimp only
    rw [bigSep_congr fun _ _ => bigSep_univ_of_subsingleton (0 : Fin 1)]
    exact bigSep_emp_const _
  rw [hx]
  unfold u₀
  iintro Hu
  ihave H := (ownU_split _ _) $$ Hu
  icases H with ⟨HH, HP⟩
  imod (Pipeline.fund_ghost cfgs (EP (F := F)) cellOf_inj) $$ HP with HG
  ihave HG' := (Entails.of_eq hG) $$ HG
  imodintro
  isplitl [HH]; · iexact HH
  isplitl [HG']; · iexact HG'
  iempintro

/-! ## @main on the TensorCore -/

/-- The arguments at launch, the result at its value. -/
def FIN (d : Dev nD) : sProp 𝕄 :=
  iprop(((SparseCore.T d).loc main_arg0 ↦{fullShare} m ((SparseCore.T d).loc main_arg0)) ∗ (lLoc d ↦{fullShare} m (lLoc d))
    ∗ (SparseCore.T d).loc main_v5 ↦{fullShare} W6 m d rv5)

theorem tcSt_idle (d : Dev nD) : ((K (F := F)).tcSt EH d 1 : sProp 𝕄)
    = iprop(idleOwes (F := F) d ∗ iprop(atPos EH ((K (F := F)).doneCell d) 1 ∅ 0 ∗ reached EH ((K (F := F)).doneCell d) 1
      ∗ (bigSep Finset.univ fun c : Fin τ.nSC => reached EH ((K (F := F)).startCell d c) ((K (F := F)).sRank c 1))
      ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))) := by
  unfold SparseCore.Cfg.tcSt idleOwes
  rw [(K (F := F)).Otc_end d le_rfl]
  rfl

/-! The contents, array by array. -/

theorem W1_ne (d : Dev nD) (b : Ref sig .tc) (h : b ≠ main_v0) : W1 m d (Proc.devRef .tc b) = m ((SparseCore.T d).loc b) :=
  StableHlo.reshape_result_ne' _ _ _ _ (W0 m d) h
theorem W2_v1 (d : Dev nD) : W2 m d rv1 = outC m (tab m) d := Function.update_self _ _ _
theorem W2_ne (d : Dev nD) (b : Ref sig .tc) (h : b ≠ main_v1) : W2 m d (Proc.devRef .tc b) = W1 m d (Proc.devRef .tc b) :=
  Function.update_of_ne (fun e => h (Proc.devRef_injective _ e)) _ _
theorem W3_v2 (d : Dev nD) : W3 m d rv2 = accT (W2 m d r0) 49 := Function.update_self _ _ _
theorem W3_ne (d : Dev nD) (b : Ref sig .tc) (h : b ≠ main_v2) : W3 m d (Proc.devRef .tc b) = W2 m d (Proc.devRef .tc b) :=
  Function.update_of_ne (fun e => h (Proc.devRef_injective _ e)) _ _
theorem W4_ne (d : Dev nD) (b : Ref sig .tc) (h : b ≠ main_v3) : W4 m d (Proc.devRef .tc b) = W3 m d (Proc.devRef .tc b) :=
  StableHlo.reshape_result_ne' _ _ _ _ (W3 m d) h
theorem W5_v4 (d : Dev nD) : W5 m d rv4 = loss (W4 m d rv2) (W4 m d rv1) (W4 m d rv3) := Function.update_self _ _ _
theorem W5_ne (d : Dev nD) (b : Ref sig .tc) (h : b ≠ main_v4) : W5 m d (Proc.devRef .tc b) = W4 m d (Proc.devRef .tc b) :=
  Function.update_of_ne (fun e => h (Proc.devRef_injective _ e)) _ _
theorem W6_ne (d : Dev nD) (b : Ref sig .tc) (h : b ≠ main_v5) : W6 m d (Proc.devRef .tc b) = W5 m d (Proc.devRef .tc b) :=
  StableHlo.reshape_result_ne' _ _ _ _ (W5 m d) h

theorem W6_arg0 (d : Dev nD) : W6 m d r0 = m ((SparseCore.T d).loc main_arg0) := by
  rw [W6_ne m d main_arg0 (by decide), W5_ne m d main_arg0 (by decide), W4_ne m d main_arg0 (by decide), W3_ne m d main_arg0 (by decide), W2_ne m d main_arg0 (by decide),
    W1_ne m d main_arg0 (by decide)]
theorem W6_arg1 (d : Dev nD) : W6 m d r1 = m (lLoc d) := by
  rw [W6_ne m d main_arg1 (by decide), W5_ne m d main_arg1 (by decide), W4_ne m d main_arg1 (by decide), W3_ne m d main_arg1 (by decide), W2_ne m d main_arg1 (by decide),
    W1_ne m d main_arg1 (by decide)]

/-- The arrays after the table's reshape, and after the SparseCore's call. -/
theorem held_W1 (d : Dev nD) : (held (SparseCore.T d) ucRefs ((op1 (F := F)).result (W0 m d)) : sProp 𝕄)
    = iprop(((SparseCore.T d).loc main_arg0 ↦{fullShare} m ((SparseCore.T d).loc main_arg0)) ∗ (lLoc d ↦{fullShare} m (lLoc d)) ∗ (tLoc d ↦{fullShare} tab m d)
      ∗ (oLoc d ↦{fullShare} m (oLoc d)) ∗ ((SparseCore.T d).loc main_v2 ↦{fullShare} W1 m d rv2) ∗ ((SparseCore.T d).loc main_v3 ↦{fullShare} W1 m d rv3)
      ∗ ((SparseCore.T d).loc main_v4 ↦{fullShare} W1 m d rv4) ∗ (SparseCore.T d).loc main_v5 ↦{fullShare} W1 m d rv5) := by
  show (held (SparseCore.T d) ucRefs (W1 m d) : sProp 𝕄) = _
  rw [← unscoped_held, unscoped_eq, W1_ne m d main_arg0 (by decide), W1_ne m d main_arg1 (by decide), W1_ne m d main_v1 (by decide)]
theorem held_W2 (d : Dev nD) : (unscopedBufs d (fun b => W2 m d (Proc.devRef .tc b)) : sProp 𝕄)
    = iprop(((SparseCore.T d).loc main_arg0 ↦{fullShare} m ((SparseCore.T d).loc main_arg0)) ∗ (lLoc d ↦{fullShare} m (lLoc d)) ∗ (tLoc d ↦{fullShare} tab m d)
      ∗ (oLoc d ↦{fullShare} outC m (tab m) d) ∗ ((SparseCore.T d).loc main_v2 ↦{fullShare} W1 m d rv2) ∗ ((SparseCore.T d).loc main_v3 ↦{fullShare} W1 m d rv3)
      ∗ ((SparseCore.T d).loc main_v4 ↦{fullShare} W1 m d rv4) ∗ (SparseCore.T d).loc main_v5 ↦{fullShare} W1 m d rv5) := by
  rw [unscoped_eq, W2_v1, W2_ne m d main_arg0 (by decide), W2_ne m d main_arg1 (by decide), W2_ne m d main_v0 (by decide), W2_ne m d main_v2 (by decide),
    W2_ne m d main_v3 (by decide), W2_ne m d main_v4 (by decide), W2_ne m d main_v5 (by decide), W1_ne m d main_arg0 (by decide), W1_ne m d main_arg1 (by decide)]

theorem unscoped_W4 (d : Dev nD) : (held (SparseCore.T d) ucRefs ((op2 (F := F)).result (W3 m d)) : sProp 𝕄) = unscopedBufs d (tcV (W4 m) d) :=
  (unscoped_held d (W4 m d)).symm
theorem unscoped_W6 (d : Dev nD) : (held (SparseCore.T d) ucRefs ((op3 (F := F)).result (W5 m d)) : sProp 𝕄) = unscopedBufs d (tcV (W6 m) d) :=
  (unscoped_held d (W6 m d)).symm

theorem sub1 : (op1 (F := F)).bufs ⊆ ucRefs := show ({r0, rv0} : Finset (DevRef τ sig)) ⊆ ucRefs by decide
theorem sub2 : (op2 (F := F)).bufs ⊆ ucRefs := show ({r1, rv3} : Finset (DevRef τ sig)) ⊆ ucRefs by decide
theorem sub3 : (op3 (F := F)).bufs ⊆ ucRefs := show ({rv4, rv5} : Finset (DevRef τ sig)) ⊆ ucRefs by decide

/-- The row sums' call, and the loss's, at @main's contents. -/
abbrev R1 [∀ e, Nonempty (Elt F e)] := reg1 (tcV (W2 m)) (tcV (W3 m)) (fun _ => (iprop(emp) : sProp 𝕄)) (fun c => W3_v2 m c) (fun c b h => W3_ne m c b h)
abbrev R2 [∀ e, Nonempty (Elt F e)] := reg2 (tcV (W4 m)) (tcV (W5 m)) (fun _ => (iprop(emp) : sProp 𝕄)) (fun c => W5_v4 m c) (fun c b h => W5_ne m c b h)

theorem R1_pre [∀ e, Nonempty (Elt F e)] (d : Dev nD) : iprop(unscopedBufs d (tcV (W2 m) d) ∗ emp ∗ idleOwes (F := F) d) ⊢ (R1 m).pre d := .rfl
theorem R1_post [∀ e, Nonempty (Elt F e)] (d : Dev nD) : (R1 m).post d ⊢ iprop(unscopedBufs d (tcV (W3 m) d) ∗ emp ∗ idleOwes (F := F) d) := .rfl

theorem R2_pre [∀ e, Nonempty (Elt F e)] (d : Dev nD) : iprop(unscopedBufs d (tcV (W4 m) d) ∗ emp ∗ idleOwes (F := F) d) ⊢ (R2 m).pre d := .rfl
theorem R2_post [∀ e, Nonempty (Elt F e)] (d : Dev nD) : (R2 m).post d ⊢ iprop(unscopedBufs d (tcV (W5 m) d) ∗ emp ∗ idleOwes (F := F) d) := .rfl

theorem hmain [∀ e, Nonempty (Elt F e)] (κ : GSem nD τ sig → ℕ) (d : Dev nD) :
    iprop((K (F := F)).ctx EH (P m (tab m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) ucRefs (W0 m d) from unscoped_held d (W0 m d)]
  simp only [main, wp_bind, wp_pure]
  iintro ⟨#Hctx, Hst, ⟨Hb, Hheld, Hts, -⟩, Hg0, Hg1⟩
  -- the table
  iapply (wp_hlo_within 𝒱 (SparseCore.T d) none Set.univ (op := op1) (S := ucRefs) sub1 (V := W0 m d)) $$ [Hb Hheld]
  · isplitl [Hb] <;> iassumption
  iintro ⟨Hb, Hheld⟩
  rw [wp_ret]; imodintro
  ihave Hh := (Entails.of_eq (held_W1 m d)) $$ Hheld
  icases Hh with ⟨Hx, Hl, Ht, Ho, H2, H3, H4, H5⟩
  -- the SparseCore's call
  iapply ((K (F := F)).wp_run (D (F := F)) 𝒱 (EH := EH) (P := P m (tab m)) κ d 0) $$ [Hst Hx Hl Ht Ho H2 H3 H4 H5 Hb Hts Hg0 Hg1]
  isplitr; · iexact Hctx
  isplitl [Hst]; · iexact Hst
  isplitl [Hl Ht Ho]
  · rw [st0_eq]
    isplitl [Hl]; · iexact Hl
    isplitl [Ht] <;> iassumption
  iintro ⟨Hst, Hdn⟩
  ihave Hdn' := (Entails.of_eq (dn0_eq m (tab m) d)) $$ Hdn
  icases Hdn' with ⟨Hl, Ht, Ho⟩
  ihave Hun := (Entails.of_eq (held_W2 m d).symm) $$ [Hx Hl Ht Ho H2 H3 H4 H5]
  · isplitl [Hx]; · iexact Hx
    isplitl [Hl]; · iexact Hl
    isplitl [Ht]; · iexact Ht
    isplitl [Ho]; · iexact Ho
    isplitl [H2]; · iexact H2
    isplitl [H3]; · iexact H3
    isplitl [H4] <;> iassumption
  ihave Hst' := ((show (K (F := F)).tcSt EH d ((0 : Fin 1).val + 1) ⊢ (K (F := F)).tcSt EH d 1 from .rfl).trans (Entails.of_eq (tcSt_idle d))) $$ Hst
  icases Hst' with ⟨Hi, Hst⟩
  -- the row sums
  iapply (wp_region (tcV (W2 m)) (R1 m) d _)
  isplitl [Hst Hts Hg1]
  swap
  · isplitl [Hb]; · iexact Hb
    isplitl [Hun Hi]
    · iapply (R1_pre m d)
      isplitl [Hun]; · iexact Hun
      isplitr; · iempintro
      iexact Hi
    iexact Hg0
  iintro ⟨Hb, Hpost⟩
  ihave Hpost' := (R1_post m d) $$ Hpost
  icases Hpost' with ⟨Hun, -, Hi⟩
  ihave Hheld := (Entails.of_eq (unscoped_held d (W3 m d))) $$ Hun
  -- the labels as a column
  iapply (wp_hlo_within 𝒱 (SparseCore.T d) none Set.univ (op := op2) (S := ucRefs) sub2 (V := W3 m d)) $$ [Hb Hheld]
  · isplitl [Hb] <;> iassumption
  iintro ⟨Hb, Hheld⟩
  rw [wp_ret]; imodintro
  ihave Hun := (Entails.of_eq (unscoped_W4 m d)) $$ Hheld
  -- the loss
  iapply (wp_region (tcV (W4 m)) (R2 m) d _)
  isplitl [Hst Hts]
  swap
  · isplitl [Hb]; · iexact Hb
    isplitl [Hun Hi]
    · iapply (R2_pre m d)
      isplitl [Hun]; · iexact Hun
      isplitr; · iempintro
      iexact Hi
    iexact Hg1
  iintro ⟨Hb, Hpost⟩
  ihave Hpost' := (R2_post m d) $$ Hpost
  icases Hpost' with ⟨Hun, -, Hi⟩
  ihave Hheld := (Entails.of_eq (unscoped_held d (W5 m d))) $$ Hun
  -- the result
  iapply (wp_hlo_within 𝒱 (SparseCore.T d) none Set.univ (op := op3) (S := ucRefs) sub3 (V := W5 m d)) $$ [Hb Hheld]
  · isplitl [Hb] <;> iassumption
  iintro ⟨Hb, Hheld⟩
  rw [wp_ret]; imodintro; imodintro
  ihave Hun := (Entails.of_eq (unscoped_W6 m d)) $$ Hheld
  ihave Hun' := (Entails.of_eq (unscoped_eq d (fun b => W6 m d (Proc.devRef .tc b)))) $$ Hun
  icases Hun' with ⟨Hx, Hl, -, -, -, -, -, H5⟩
  isplitl [Hi Hst]
  · iapply (Entails.of_eq (tcSt_idle d).symm)
    isplitl [Hi] <;> iassumption
  isplitl [Hx Hl H5]
  · unfold FIN
    rw [← W6_arg0 m d, ← W6_arg1 m d]
    isplitl [Hx]; · iexact Hx
    isplitl [Hl] <;> iassumption
  isplitl [Hb] <;> iassumption

def fq (d : Dev nD) (s' : Phys nD τ sig (Elt F)) : Prop :=
  s'.mem.mem ((SparseCore.T d).loc main_arg0) = m ((SparseCore.T d).loc main_arg0) ∧ s'.mem.mem (lLoc d) = m (lLoc d)
    ∧ s'.mem.mem ((SparseCore.T d).loc main_v5) = W6 m d rv5

theorem hfin (d : Dev nD) (s' : Phys nD τ sig (Elt F)) : iprop(FIN m d ∗ SI s') ⊢ (⌜fq m d s'⌝ : sProp 𝕄) := by
  unfold FIN
  iintro ⟨⟨Hx, Hl, Ho⟩, HSI⟩
  ihave H := (persistent_entails_right SI_pointsTo_agree) $$ [HSI Hx]
  · isplitl [HSI] <;> iassumption
  icases H with ⟨%hx, HSI, -⟩
  ihave H := (persistent_entails_right SI_pointsTo_agree) $$ [HSI Hl]
  · isplitl [HSI] <;> iassumption
  icases H with ⟨%hl, HSI, -⟩
  ihave H := SI_pointsTo_agree $$ [HSI Ho]
  · isplitl [HSI] <;> iassumption
  icases H with %ho
  ipureintro
  exact ⟨funext fun i => hx i (Finset.mem_univ i), funext fun i => hl i (Finset.mem_univ i), funext fun i => ho i (Finset.mem_univ i)⟩

/-! ## The run -/

/-- Every device's arguments are as launched, its result the value above, and every semaphore at zero. -/
def QC : PUnit × MemSt nD τ sig (Elt F) → Prop := fun r =>
  (∀ c : Dev nD, r.2.mem ((SparseCore.T c).loc main_arg0) = m ((SparseCore.T c).loc main_arg0) ∧ r.2.mem (lLoc c) = m (lLoc c)
    ∧ r.2.mem ((SparseCore.T c).loc main_v5) = W6 m c rv5) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m (tab m)) (A := ∅) facts v₀
    (fun q hq => match q with | 0 => nomatch hq)
    (fun q _ => match q with | 0 => tileObl m (tab m) facts hpre)
    (fun q _ => match q with | 0 => SparseCore.Cfg.VecSplit.of_plain (vecSplit m (tab m)))
    m ρ main G (FIN m) (u₀ (F := F)) (sep_elim_left.trans (hu₀ m)) (hmain m ρ) (fq m) (hfin m) (QC m) (fun _ h hz => ⟨h, hz⟩)

end Cert.Proof.Main

end
-- ==== Proof.SameText.lean ====
/-
  The two printed kernels have one text: where the machine's program has a constant's word, the ideal one has the
  constant's name. Reading a name, at the machine's floats, as the word beside it makes the second program the first,
  so a run of the second is a run of the first.
-/
module

public import proofs.«01_k».proof.Defs
public import proofs.«01_k».proof.Proof.Gen.Kernel
public import proofs.«01_k».proof.Proof.Gen.KernelIdeal

@[expose] public section

noncomputable section

namespace Cert.Proof.SameText

open Idealize.ShloMosaic

/-- A named constant at the machine's floats: the word printed beside the name. -/
abbrev namedBits : Named Bits where
  named _ _ φ b := Scalar.ofBits φ b

attribute [local instance] namedBits Cert.Kernel.Gen.facts Cert.KernelIdeal.Gen.facts

set_option maxRecDepth 100000

/-- The kernel bodies agree at every processor, label and argument. -/
theorem bodies_eq : Cert.KernelIdeal.defs₀ (F := Bits) = Cert.Kernel.defs₀ (F := Bits) := by
  funext ct ℓ a
  cases ct <;> fin_cases ℓ <;> first | rfl | (cases a; rfl)

/-- So do the definitions the threads run under, -/
theorem defs_eq : Cert.KernelIdeal.defs (F := Bits) = Cert.Kernel.defs (F := Bits) :=
  congrArg (fun x => Cert.KernelIdeal.sc.defs (Pipeline.defs Cert.KernelIdeal.pcfgs x)) bodies_eq

/-- and the threads. -/
theorem threads_eq : Cert.KernelIdeal.threads (F := Bits) = Cert.Kernel.threads (F := Bits) := rfl

end Cert.Proof.SameText

end
-- ==== Proof.Frames.lean ====
/-
  The frames: the preconditions read at a label, the runs of the kernel at both printings, the reference's run, and the named
  constant's statement.
-/
module

public import proofs.«01_k».proof.Proof.Main
public import proofs.«01_k».proof.Proof.SameText
public import proofs.«01_k».proof.Proof.Gen.Pre_labels_in_range
public import proofs.«01_k».proof.Proof.Gen.Pre_finite_and_in_range
public import proofs.«01_k».proof.Proof.Gen.ReferenceIdeal.Run
public import Idealize.ShloMosaic.Lib.ReduceAll
public import Idealize.ShloMosaic.Lib.WordCmp
public import Idealize.ShloMosaic.Lib.Quiescent

@[expose] public section

noncomputable section

namespace Cert.Proof.Frames

open Idealize.ShloMosaic Idealize.SL.Sem
open Cert.Proof.ScTile (PreOK lLoc)
open Cert.Proof.Main (run_main QC)

attribute [local instance] Cert.Pre_labels_in_range.Gen.facts Cert.Pre_finite_and_in_range.Gen.facts Cert.Kernel.Gen.facts Cert.KernelIdeal.Gen.facts Cert.ReferenceIdeal.Gen.facts

/-! ## The preconditions, read at an element -/

/-- A word between the two bounds, as the comparisons put it. -/
theorem word_lt (v : BitVec 32) (e : IntOp.andi (IntOp.cmpi .sge v 0#32) (IntOp.cmpi .slt v 100000#32) = 1#1) : v.toNat < 100000 := by
  rw [IntOp.andi_eq_one] at e
  have h1 := IntOp.cmpi_sge.1 e.1
  have h2 := IntOp.cmpi_slt.1 e.2
  simp only [BitVec.toInt_eq_toNat_cond, BitVec.toNat_ofNat, Nat.reducePow, Nat.reduceMod] at h1 h2
  omega

instance idxUnit : Subsingleton (⟨0, ![]⟩ : Shape).Idx := ⟨fun a b => funext fun x => x.elim0⟩

variable {F : FTy → Type} [FloatOps F]

theorem labels_of (x : FVec F Cert.Pre_labels_in_range.S1024x100000 .f32) (l : IVec Cert.Pre_labels_in_range.S1024 32)
    (h : Cert.Pre_labels_in_range.fn x l = fun _ => 1#1) (j : Cert.Pre_labels_in_range.S1024.Idx) : (l j).toNat < 100000 := by
  have e := congrFun h (fun a => a.elim0)
  simp only [Cert.Pre_labels_in_range.fn] at e
  exact word_lt _ (Host.reduce_andi_all _ _ _ _ _ e j)

theorem labels_of' (x : FVec F Cert.Pre_labels_in_range.S1024x100000 .f32) (l : IVec Cert.Pre_labels_in_range.S1024 32)
    (h : Cert.Pre_finite_and_in_range.fn x l = fun _ => 1#1) (j : Cert.Pre_labels_in_range.S1024.Idx) : (l j).toNat < 100000 := by
  have e := congrFun h (fun a => a.elim0)
  simp only [Cert.Pre_finite_and_in_range.fn, andi] at e
  exact word_lt _ (Host.reduce_andi_all _ _ _ _ _ (IntOp.andi_eq_one.1 e).1 j)

/-! ## The kernel's frames -/

theorem frame_ideal : Cert.quiescent_KernelIdeal := fun m ρ h =>
  (θ_run Cert.KernelIdeal.defs _ _).mono (fun _ r => ⟨fun c => ⟨(r.1 c).1, (r.1 c).2.1⟩, r.2⟩)
    (run_main (F := Ideal) m ρ (fun d j => labels_of _ _ (h d) j))

theorem ok_of_finite (m : (ℓ : Loc Cert.KernelIdeal.nD Cert.KernelIdeal.τ Cert.KernelIdeal.sig) → Buf (Elt Ideal) ℓ)
    (h : Cert.Pre_KernelIdeal_finite_and_in_range m) : PreOK m := fun d j => labels_of' _ _ (h d) j

theorem frame_ideal_finite : Cert.quiescent_KernelIdeal_pre_finite_and_in_range := fun m ρ h =>
  (θ_run Cert.KernelIdeal.defs _ _).mono (fun _ r => ⟨fun c => ⟨(r.1 c).1, (r.1 c).2.1⟩, r.2⟩)
    (run_main (F := Ideal) m ρ (ok_of_finite m h))

section Machine

attribute [local instance] Cert.Proof.SameText.namedBits

theorem frame_machine : Cert.quiescent_Kernel := fun m ρ h => by
  have H := run_main (F := Bits) m ρ (fun d j => labels_of _ _ (h d) j)
  rw [SameText.defs_eq, SameText.threads_eq] at H
  exact (θ_run Cert.Kernel.defs _ _).mono (fun _ r => ⟨fun c => ⟨(r.1 c).1, (r.1 c).2.1⟩, r.2⟩) H

end Machine

/-! ## The reference's -/

theorem ref_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run Cert.ReferenceIdeal.defs _ _).mono (fun _ r => ⟨fun c => (r c).2, sem_eq_zero_of_no_sems (by decide) _⟩) (Cert.ReferenceIdeal.Value.run (F := Ideal) m ρ)

theorem frame_ref : Cert.quiescent_ReferenceIdeal := fun m ρ _ => ref_run m ρ
theorem frame_ref_finite : Cert.quiescent_ReferenceIdeal_pre_finite_and_in_range := fun m ρ _ => ref_run m ρ

/-! ## The named constant -/

theorem named : Cert.preserves_Kernel_KernelIdeal := IdealRules.named_const.statement Cert.KernelIdeal.κ "c1" .f32 0x422D1F97#32 _ rfl

end Cert.Proof.Frames

end
-- ==== Proof.Reals.lean ====
/-
  The real mathematics of the loss: the two spellings of one row's cross entropy, and of the target with its margin.
-/
module

public import Idealize.ShloMosaic.PureOps.Ideal.Laws
public import Idealize.ShloMosaic.Lib.IdealHost
public import Mathlib.Analysis.SpecialFunctions.Trigonometric.Inverse
public import Mathlib.Analysis.SpecialFunctions.Pow.Real

@[expose] public section

noncomputable section

namespace Cert.Proof.Reals

open Idealize.ShloMosaic
open scoped BigOperators

/-- A finite sum of reals is the sum of their extended reals. -/
theorem sum_coe {ι : Type} (s : Finset ι) (f : ι → ℝ) : ∑ i ∈ s, (f i : EReal) = ((∑ i ∈ s, f i : ℝ) : EReal) := by
  classical
  induction s using Finset.induction_on with
  | empty => simp
  | insert a t h ih => rw [Finset.sum_insert h, Finset.sum_insert h, ih, EReal.coe_add]

theorem max_coe (a b : ℝ) : max (a : EReal) (b : EReal) = ((max a b : ℝ) : EReal) := (EReal.coe_strictMono.monotone.map_max).symm
theorem min_coe (a b : ℝ) : min (a : EReal) (b : EReal) = ((min a b : ℝ) : EReal) := (EReal.coe_strictMono.monotone.map_min).symm

/-- A choice by a comparison is the choice by its proposition. -/
theorem select_gt {α : Type} (x y : EReal) (a b : α) : Scalar.select (Ideal.cmp .ogt x y) a b = if y < x then a else b := by
  show Scalar.select (BitVec.ofBool (decide (y < x))) a b = _
  by_cases h : y < x
  · rw [decide_eq_true h, if_pos h]; rfl
  · rw [decide_eq_false h, if_neg h]; rfl

/-! ## The literals -/

theorem lit_thirty : Ideal.ofBits .f32 0x41F00000#32 = ((30 : ℝ) : EReal) := by
  simp [Ideal.ofBits, Ideal.ieee, -EReal.coe_mul]; norm_num
theorem lit_half : Ideal.ofBits .f32 0x3F000000#32 = (((1 : ℝ) / 2 : ℝ) : EReal) := by
  simp [Ideal.ofBits, Ideal.ieee, -EReal.coe_mul]; norm_num
theorem lit_one : Ideal.ofBits .f32 0x3F800000#32 = ((1 : ℝ) : EReal) := by
  rw [Ideal.ofBits_one_f32]; norm_cast
theorem lit_neg_one : Ideal.ofBits .f32 0xBF800000#32 = ((-(1 : ℝ) : ℝ) : EReal) := by
  simp [Ideal.ofBits, Ideal.ieee, -EReal.coe_mul, -EReal.coe_neg]; norm_num
theorem lit_bot : Ideal.ofBits .f32 0xFF800000#32 = ⊥ := by
  simp [Ideal.ofBits, Ideal.ieee]
theorem lit_top : Ideal.ofBits .f32 0x7F800000#32 = ⊤ := by
  simp [Ideal.ofBits, Ideal.ieee]

/-- What is taken off the target below the threshold. -/
def mm : ℝ := (Ideal.ofBits .f32 0x3E757744#32).toReal
theorem lit_mm : Ideal.ofBits .f32 0x3E757744#32 = (mm : EReal) := by
  unfold mm
  simp [Ideal.ofBits, Ideal.ieee, -EReal.coe_mul]

/-! ## One row -/

/-- The exponent's scale in base two. -/
def c1 : ℝ := 30 * (Real.log 2)⁻¹

theorem pow_c1 (x : ℝ) : Real.rpow 2 (x * c1 - c1) = Real.exp (30 * x - 30) := by
  have h : Real.log 2 ≠ 0 := (Real.log_pos (by norm_num)).ne'
  show (2 : ℝ) ^ (x * c1 - c1) = _
  rw [Real.rpow_def_of_pos (by norm_num)]
  congr 1
  unfold c1
  field_simp

/-- The target with the margin added to its angle, or below the threshold the target less a constant. -/
def tgt (x : ℝ) : ℝ :=
  if Ideal.ofBits .f32 0xBF60A940#32 < (x : EReal) then Real.cos (Real.arccos (min 1 (max (-1) x)) + 1 / 2) else x - mm

/-- The margin added by the addition theorem: of a cosine `c`. -/
theorem cos_add (c : ℝ) (h1 : -1 ≤ c) (h2 : c ≤ 1) :
    c * Real.cos (1 / 2) - Real.sqrt (max (1 - c * c) 0) * Real.sin (1 / 2) = Real.cos (Real.arccos c + 1 / 2) := by
  rw [Real.cos_add, Real.cos_arccos h1 h2, Real.sin_arccos, max_eq_left (by nlinarith), pow_two]

variable {n : ℕ}

/-- The row's sum of exponentials, each shifted down by 30. -/
def tot (x : Fin n → ℝ) : ℝ := ∑ k, Real.exp (30 * x k - 30)

/-- The row's cross entropy as the kernel computes it: the sum's target term replaced. -/
def ce (x : Fin n → ℝ) (l : Fin n) : ℝ :=
  Real.log (tot x - Real.exp (30 * x l - 30) + Real.exp (30 * tgt (x l) - 30)) - (30 * tgt (x l) - 30)

/-- The row's loss. -/
def term (x : Fin n → ℝ) (l : Fin n) : ℝ := (1 - Real.exp (0 - ce x l)) * ce x l

theorem sum_pos (x : Fin n → ℝ) (l : Fin n) :
    0 < tot x - Real.exp (30 * x l - 30) + Real.exp (30 * tgt (x l) - 30) := by
  have h : Real.exp (30 * x l - 30) ≤ tot x :=
    Finset.single_le_sum (f := fun k => Real.exp (30 * x k - 30)) (fun _ _ => (Real.exp_pos _).le) (Finset.mem_univ l)
  have := Real.exp_pos (30 * tgt (x l) - 30)
  linarith

/-- The row with its target replaced. -/
def row (x : Fin n → ℝ) (l k : Fin n) : ℝ := if k = l then tgt (x l) else x k

theorem sum_row (x : Fin n → ℝ) (l : Fin n) :
    ∑ k, Real.exp (30 * row x l k - 30) = tot x - Real.exp (30 * x l - 30) + Real.exp (30 * tgt (x l) - 30) := by
  unfold tot
  rw [← Finset.add_sum_erase Finset.univ (fun k => Real.exp (30 * row x l k - 30)) (Finset.mem_univ l),
    ← Finset.add_sum_erase Finset.univ (fun k => Real.exp (30 * x k - 30)) (Finset.mem_univ l)]
  have e : ∑ k ∈ Finset.univ.erase l, Real.exp (30 * row x l k - 30) = ∑ k ∈ Finset.univ.erase l, Real.exp (30 * x k - 30) :=
    Finset.sum_congr rfl fun k hk => by rw [row, if_neg (Finset.ne_of_mem_erase hk)]
  rw [e]
  have : row x l l = tgt (x l) := if_pos rfl
  rw [this]
  ring

/-- The row's cross entropy as the reference computes it, each exponent shifted by any real. -/
theorem ce_eq (x : Fin n → ℝ) (l : Fin n) (M : ℝ) :
    -((row x l l * 30 - M) - Real.log (∑ k, Real.exp (row x l k * 30 - M))) = ce x l := by
  have hs : ∑ k, Real.exp (row x l k * 30 - M) = Real.exp (30 - M) * ∑ k, Real.exp (30 * row x l k - 30) := by
    rw [Finset.mul_sum]
    refine Finset.sum_congr rfl fun k _ => ?_
    rw [← Real.exp_add]; congr 1; ring
  have hr : row x l l = tgt (x l) := if_pos rfl
  have hp := sum_pos x l
  rw [hs, sum_row, Real.log_mul (Real.exp_pos _).ne' hp.ne', Real.log_exp, hr, ce]
  ring

end Cert.Proof.Reals

end
-- ==== Proof.KernelValue.lean ====
/-
  The kernel's value over the extended reals: the row sums, the targets picked out of the gathered rows, and the loss.
-/
module

public import proofs.«01_k».proof.Proof.Main
public import proofs.«01_k».proof.Proof.Reals
public import Idealize.ShloMosaic.Lib.Pipeline.Value
public import Idealize.ShloMosaic.Lib.Pointwise
public import Idealize.ShloMosaic.Lib.WordCmp

@[expose] public section

noncomputable section

namespace Cert.Proof.KernelValue

open Cert.KernelIdeal Cert.KernelIdeal.Gen Idealize.ShloMosaic
open Cert.Proof.Reduce (aIx blkX accT accT_lt accT_last iLast)
open Cert.Proof.Reals
open scoped BigOperators

theorem named_c1 : (Named.named κ "c1" 0x422D1F97#32 : Ideal .f32) = ((c1 : ℝ) : EReal) :=
  IdealRules.named_const.ideal_named_scalar κ "c1" _ _ rfl

/-- A row's cell of the one-column arrays. -/
def rIx (r : Fin 1024) : S1024x1.Idx := fun | 0 => r | 1 => (0 : Fin 1)
/-- A cell of a block. -/
def bIx (r : Fin 1024) (k : Fin 2048) : S1024x2048.Idx := fun | 0 => r | 1 => k

theorem rIx_eta (i : S1024x1.Idx) : rIx (i 0) = i := by
  funext a
  match a with
  | ⟨0, _⟩ => rfl
  | ⟨1, _⟩ => exact Subsingleton.elim (α := Fin 1) _ _

theorem col_cast (v : FVec Ideal S1024 .f32) (r : Fin 1024) :
    shapeCast S1024x1 v shapeCasts_S1024_S1024x1 (rIx r) = v (fun | 0 => r) :=
  shapeCast_apply v _ _ _ (by
    rewrite [Shape.rowMajor_val_one, Shape.rowMajor_val_two]
    show r.val = r.val * 1 + 0
    omega)

theorem row_sum (v : FVec Ideal S1024x2048 .f32) (r : Fin 1024) (h) (h' : S1024x2048.Reduces [1] S1024) (h'') :
    multiReduction .add [1] S1024 v 0x00000000#32 h' h h'' (fun | 0 => r) = ∑ k : Fin 2048, v (bIx r k) := by
  rw [multiReduction_add_apply, Ideal.reduceAdd_def, Ideal.reduceAdd_r2_a1]
  refine Finset.sum_congr rfl fun k _ => congrArg v (funext fun a => ?_)
  match a with
  | ⟨0, _⟩ => rfl
  | ⟨1, _⟩ => rfl

theorem pay1_apply (r : Fin 1024) : k1_pay1 (F := Ideal) (rIx r) = 0 := by
  unfold k1_pay1
  simp only [shapeCast_self]
  exact Ideal.ofBits_zero_f32

theorem pay2_apply (X : S1024x2048.Idx → EReal) (g : S1024x1.Idx → EReal) (r : Fin 1024) :
    k1_pay2 (F := Ideal) X g (rIx r) = g (rIx r) + ∑ k : Fin 2048, Ideal.exp2 (X (bIx r k) * (c1 : EReal) - (c1 : EReal)) := by
  unfold k1_pay2
  simp only [shapeCast_self]
  refine congrArg (g (rIx r) + ·) ?_
  refine (col_cast _ r).trans ((row_sum _ r _ _ _).trans (Finset.sum_congr rfl fun k _ => ?_))
  show Ideal.exp2 (X (bIx r k) * _ - _) = _
  rw [named_c1]
  rfl

theorem mask (n : Fin 2048) :
    IntOp.cmpi .slt (BitVec.ofNat 32 48 * 2048#32 + BitVec.ofNat 32 n.val) 100000#32 = if 48 * 2048 + n.val < 100000 then 1#1 else 0#1 := by
  revert n
  decide +kernel

theorem pay3_apply (X : S1024x2048.Idx → EReal) (g : S1024x1.Idx → EReal) (r : Fin 1024) :
    k1_pay3 (F := Ideal) iLast X g (rIx r)
      = g (rIx r) + ∑ k : Fin 2048, if 48 * 2048 + k.val < 100000 then Ideal.exp2 (X (bIx r k) * (c1 : EReal) - (c1 : EReal)) else 0 := by
  unfold k1_pay3
  simp only [shapeCast_self]
  refine congrArg (g (rIx r) + ·) ?_
  refine (col_cast _ r).trans ((row_sum _ r _ _ _).trans (Finset.sum_congr rfl fun k _ => ?_))
  have hm : cmpi .slt (addi (broadcast S1024x2048 (Scalar.muli (BitVec.ofNat 32 (iLast 0).val) 2048#32)) (iota .tc S1024x2048 32 [1] iota_S1024x2048_d1_w32))
      (broadcast S1024x2048 100000#32) (bIx r k) = if 48 * 2048 + k.val < 100000 then 1#1 else 0#1 := by
    rw [← mask k]
    simp [cmpi, addi, broadcast, iota, Scalar.muli, IntOp.addi, IntOp.muli, Cert.Proof.Reduce.coords_val, bIx]
  refine (congrArg (fun c => Scalar.select c _ _) hm).trans ?_
  split
  · show Ideal.exp2 (X (bIx r k) * _ - _) = _
    rw [named_c1]
    rfl
  · exact Ideal.ofBits_zero_f32

/-! ## The row sums -/

section Rows
variable (Xa : S1024x100000.Idx → EReal) (X : Fin 1024 → Fin 100000 → ℝ) (hX : ∀ r k, Xa (aIx r k) = (X r k : EReal))
include hX

/-- One exponential of a row, zero past the row's end. -/
def ex (r : Fin 1024) (k : ℕ) : ℝ := if h : k < 100000 then Real.exp (30 * X r ⟨k, h⟩ - 30) else 0

theorem exp2_blk (n : ℕ) (r : Fin 1024) (k : Fin 2048) (h : n * 2048 + k.val < 100000) :
    Ideal.exp2 (blkX (F := Ideal) Xa n (bIx r k) * (c1 : EReal) - (c1 : EReal)) = (ex X r (n * 2048 + k.val) : EReal) := by
  have e : blkX (F := Ideal) Xa n (bIx r k) = Xa (aIx r ⟨n * 2048 + k.val, h⟩) := dif_pos h
  rw [e, hX, ex, dif_pos h, ← EReal.coe_mul, ← EReal.coe_sub, Ideal.exp2_coe, pow_c1]

theorem acc_lt (r : Fin 1024) : ∀ n : ℕ, n ≤ 48 → accT (F := Ideal) Xa n (rIx r) = ((∑ k ∈ Finset.range (n * 2048), ex X r k : ℝ) : EReal)
  | 0, _ => by
    rw [accT, pay1_apply]
    simp
  | n + 1, h => by
    rw [accT_lt _ _ (by omega), pay2_apply, acc_lt r n (by omega), Nat.succ_mul, Finset.sum_range_add, EReal.coe_add, ← sum_coe, ← sum_coe]
    refine congrArg (_ + ·) ?_
    rw [Finset.sum_range fun k => (ex X r (n * 2048 + k) : EReal)]
    exact Finset.sum_congr rfl fun k _ => exp2_blk Xa X hX n r k (by have := k.isLt; omega)

theorem acc_all (r : Fin 1024) : accT (F := Ideal) Xa 49 (rIx r) = ((tot (X r) : ℝ) : EReal) := by
  have e : tot (X r) = ∑ k ∈ Finset.range (48 * 2048 + 2048), ex X r k := by
    unfold tot
    rw [show (∑ k ∈ Finset.range (48 * 2048 + 2048), ex X r k) = ∑ k ∈ Finset.range 100000, ex X r k from
      (Finset.sum_subset (Finset.range_subset_range.2 (by decide)) fun k _ hk => dif_neg (by simpa using hk)).symm,
      Finset.sum_range]
    exact Finset.sum_congr rfl fun k _ => by rw [ex, dif_pos k.isLt]
  rw [accT_last, pay3_apply, acc_lt Xa X hX r 48 le_rfl, e, Finset.sum_range_add, EReal.coe_add, ← sum_coe, ← sum_coe]
  refine congrArg (_ + ·) ?_
  rw [Finset.sum_range fun k => (ex X r (48 * 2048 + k) : EReal)]
  refine Finset.sum_congr rfl fun k _ => ?_
  split
  · next h => exact exp2_blk Xa X hX 48 r k h
  · next h => rw [ex, dif_neg h]; rfl

end Rows

/-! ## The target picked out of the gathered row -/

/-- A cell of the gathered rows. -/
def gIx (r : Fin 1024) (q : Fin 128) : S1024x128.Idx := fun | 0 => r | 1 => q

theorem lane_eq (r : Fin 1024) (l : BitVec 32) (hl : l.toNat < 100000) (q : Fin 128) :
    IntOp.cmpi .eq (BitVec.ofNat 32 q.val) ((BitVec.ofNat 32 r.val * 100000#32 + l) &&& 127#32)
      = if q.val = (r.val * 100000 + l.toNat) % 128 then 1#1 else 0#1 := by
  have hr := r.isLt
  have hq := q.isLt
  have e : ((BitVec.ofNat 32 r.val * 100000#32 + l) &&& 127#32).toNat = (r.val * 100000 + l.toNat) % 128 := by
    rw [BitVec.toNat_and, show (127#32).toNat = 2 ^ 7 - 1 from rfl, Nat.and_two_pow_sub_one_eq_mod]
    simp only [BitVec.toNat_add, BitVec.toNat_mul, BitVec.toNat_ofNat]
    omega
  have h1 : (BitVec.ofNat 32 q.val).toNat = q.val := by simp only [BitVec.toNat_ofNat]; omega
  have h2 : (BitVec.ofNat 32 q.val = (BitVec.ofNat 32 r.val * 100000#32 + l) &&& 127#32) ↔ q.val = (r.val * 100000 + l.toNat) % 128 := by
    rw [← BitVec.toNat_inj, h1, e]
  show BitVec.ofBool (decide _) = _
  by_cases h : q.val = (r.val * 100000 + l.toNat) % 128
  · rw [if_pos h, decide_eq_true (h2.2 h)]; rfl
  · rw [if_neg h, decide_eq_false (mt h2.1 h)]; rfl

theorem row_sum' (v : FVec Ideal S1024x128 .f32) (r : Fin 1024) (h) (h' : S1024x128.Reduces [1] S1024) (h'') :
    multiReduction .add [1] S1024 v 0x00000000#32 h' h h'' (fun | 0 => r) = ∑ k : Fin 128, v (gIx r k) := by
  rw [multiReduction_add_apply, Ideal.reduceAdd_def, Ideal.reduceAdd_r2_a1]
  refine Finset.sum_congr rfl fun k _ => congrArg v (funext fun a => ?_)
  match a with
  | ⟨0, _⟩ => rfl
  | ⟨1, _⟩ => rfl

theorem pick (g : S1024x128.Idx → EReal) (lc : S1024x1.Idx → BitVec 32) (r : Fin 1024) (hl : (lc (rIx r)).toNat < 100000) :
    k2_pay3 (F := Ideal) g lc (rIx r) = g (gIx r ⟨(r.val * 100000 + (lc (rIx r)).toNat) % 128, Nat.mod_lt _ (by decide)⟩) := by
  unfold k2_pay3
  simp only [shapeCast_self]
  refine (col_cast _ r).trans ((row_sum' _ r _ _ _).trans ?_)
  rw [Finset.sum_eq_single (⟨(r.val * 100000 + (lc (rIx r)).toNat) % 128, Nat.mod_lt _ (by decide)⟩ : Fin 128)]
  all_goals
    have hm : ∀ q : Fin 128, cmpi .eq (iota .tc S1024x128 32 [1] iota_S1024x128_d1_w32)
        (broadcastTo S1024x128 (andi (addi (muli (iota .tc S1024x1 32 [0] iota_S1024x1_d0_w32) (broadcast S1024x1 100000#32)) lc) (broadcast S1024x1 127#32)) broadcasts_S1024x1_S1024x128)
        (gIx r q) = if q.val = (r.val * 100000 + (lc (rIx r)).toNat) % 128 then 1#1 else 0#1 := fun q => by
      rw [← lane_eq r _ hl q]
      refine congrArg₂ (IntOp.cmpi .eq) ?_ ?_
      · simp [iota, gIx]
      · refine (broadcastTo_apply _ _ _ (rIx r) fun a => ?_).trans ?_
        · match a with
          | ⟨0, _⟩ => rfl
          | ⟨1, _⟩ => rfl
        · simp [iota, andi, addi, muli, broadcast, IntOp.addi, IntOp.muli, IntOp.andi, rIx]
  · refine (congrArg (fun c => Scalar.select c _ _) (hm _)).trans ?_
    rw [if_pos rfl]; rfl
  · intro q _ hq
    refine (congrArg (fun c => Scalar.select c _ _) (hm _)).trans ?_
    rw [if_neg fun h => hq (Fin.ext h)]
    exact Ideal.ofBits_zero_f32
  · exact fun h => absurd (Finset.mem_univ _) h

/-! ## The loss -/

open Cert.Proof.ScTile (gathered pickRow rowWord tIx lIx rowWord_lt) in
/-- The lane picked out of a gathered row is the cosine at the label. -/
theorem gathered_pick (Xa : S1024x100000.Idx → EReal) (hc : S1024x100000.ShapeCasts S800000x128) (lb : S1024.Idx → BitVec 32) (r : Fin 1024)
    (hl : (lb (lIx r)).toNat < 100000) :
    gathered (F := Ideal) (shapeCast S800000x128 Xa hc) lb (gIx r ⟨(r.val * 100000 + (lb (lIx r)).toNat) % 128, Nat.mod_lt _ (by decide)⟩)
      = Xa (aIx r ⟨(lb (lIx r)).toNat, hl⟩) := by
  have hr := r.isLt
  have e : (BitVec.ofNat 32 r.val * 100000#32 + lb (lIx r)).toNat = r.val * 100000 + (lb (lIx r)).toNat := by
    simp only [BitVec.toNat_add, BitVec.toNat_mul, BitVec.toNat_ofNat]
    omega
  have hp : (pickRow r.val (lb (lIx r))).val = (r.val * 100000 + (lb (lIx r)).toNat) / 128 := by
    show (rowWord r.val (lb (lIx r))).toNat % 800000 = _
    rw [Nat.mod_eq_of_lt (rowWord_lt hr hl), rowWord, BitVec.toNat_ushiftRight, e, Nat.shiftRight_eq_div_pow]
  refine shapeCast_apply Xa hc _ _ ?_
  rewrite [Shape.rowMajor_val_two, Shape.rowMajor_val_two]
  show r.val * 100000 + (lb (lIx r)).toNat = (pickRow r.val (lb (lIx r))).val * 128 + (r.val * 100000 + (lb (lIx r)).toNat) % 128
  rw [hp]
  omega

theorem tgt_eq (g : S1024x128.Idx → EReal) (lc : S1024x1.Idx → BitVec 32) (r : Fin 1024) (x : ℝ) (h : k2_pay3 (F := Ideal) g lc (rIx r) = (x : EReal)) :
    k2_pay4 (F := Ideal) g lc (rIx r) = ((tgt x : ℝ) : EReal) := by
  unfold k2_pay4
  show Scalar.select (Ideal.cmp .ogt (k2_pay3 (F := Ideal) g lc (rIx r)) (Ideal.ofBits .f32 0xBF60A940#32))
    (min (Ideal.ofBits .f32 0x3F800000#32) (max (Ideal.ofBits .f32 0xBF800000#32) (k2_pay3 (F := Ideal) g lc (rIx r))) * Ideal.cos (Ideal.ofBits .f32 0x3F000000#32)
      - Ideal.sqrt (max (Ideal.ofBits .f32 0x3F800000#32 - min (Ideal.ofBits .f32 0x3F800000#32) (max (Ideal.ofBits .f32 0xBF800000#32) (k2_pay3 (F := Ideal) g lc (rIx r)))
          * min (Ideal.ofBits .f32 0x3F800000#32) (max (Ideal.ofBits .f32 0xBF800000#32) (k2_pay3 (F := Ideal) g lc (rIx r)))) (Ideal.ofBits .f32 0x00000000#32))
        * Ideal.sin (Ideal.ofBits .f32 0x3F000000#32))
    (k2_pay3 (F := Ideal) g lc (rIx r) - Ideal.ofBits .f32 0x3E757744#32) = _
  rw [h, lit_mm, lit_half, lit_one, lit_neg_one, Ideal.ofBits_zero_f32, select_gt, tgt, ← EReal.coe_zero, max_coe, min_coe]
  have h1 : -1 ≤ min 1 (max (-1) x) := le_min (by norm_num) (le_max_left _ _)
  have h2 : min 1 (max (-1) x) ≤ 1 := min_le_left _ _
  rw [← cos_add _ h1 h2, Ideal.cos_coe, Ideal.sin_coe, ← EReal.coe_mul, ← EReal.coe_mul, ← EReal.coe_sub, max_coe, Ideal.sqrt_coe,
    if_neg (not_lt.2 (le_max_right _ _)), ← EReal.coe_mul, ← EReal.coe_sub, ← EReal.coe_sub]
  split <;> rfl

theorem scaled_eq (g : S1024x128.Idx → EReal) (lc : S1024x1.Idx → BitVec 32) (r : Fin 1024) (x : ℝ) (h : k2_pay3 (F := Ideal) g lc (rIx r) = (x : EReal)) :
    k2_pay5 (F := Ideal) g lc (rIx r) = ((x * c1 : ℝ) : EReal) := by
  unfold k2_pay5
  show k2_pay3 (F := Ideal) g lc (rIx r) * _ = _
  rw [h, EReal.coe_mul, ← named_c1]
  rfl

theorem total (v : FVec Ideal S1024x1 .f32) (h) (h' : S1x1024x1.Reduces [1, 2] S1) (h'') (i : S1.Idx) :
    multiReduction .add [1, 2] S1 (shapeCast S1x1024x1 v shapeCasts_S1024x1_S1x1024x1) 0x00000000#32 h' h h'' i = ∑ r : Fin 1024, v (rIx r) := by
  rw [multiReduction_add_apply, Ideal.reduceAdd_def, Ideal.reduceAdd_r3_a12]
  refine Finset.sum_congr rfl fun r _ => ?_
  rw [Fin.sum_univ_one]
  refine shapeCast_apply v _ _ _ ?_
  rewrite [Shape.rowMajor_val_two, Shape.rowMajor_val_three]
  have h0 : (i 0).val < 1 := (i 0).isLt
  show r.val * 1 + 0 = ((i 0).val * 1024 + r.val) * 1 + 0
  omega

/-- The mean of the rows' losses. -/
def mean (X : Fin 1024 → Fin 100000 → ℝ) (l : Fin 1024 → Fin 100000) : EReal :=
  Ideal.div (((∑ r, term (X r) (l r) : ℝ)) : EReal) (Ideal.ofBits .f32 0x44800000#32)

theorem loss_eq (X : Fin 1024 → Fin 100000 → ℝ) (l : Fin 1024 → Fin 100000) (s : S1024x1.Idx → EReal) (g : S1024x128.Idx → EReal) (lc : S1024x1.Idx → BitVec 32)
    (hs : ∀ r, s (rIx r) = ((tot (X r) : ℝ) : EReal)) (ht : ∀ r, k2_pay3 (F := Ideal) g lc (rIx r) = (X r (l r) : EReal)) (i : S1x1.Idx) :
    Cert.Proof.Combine.loss (F := Ideal) s g lc i = mean X l := by
  unfold Cert.Proof.Combine.loss k2_pay1
  simp only []
  refine congrArg (fun z => Ideal.div z (Ideal.ofBits .f32 0x44800000#32)) ?_
  refine (shapeCast_apply _ _ _ (show S1.Idx from fun | 0 => (0 : Fin 1)) ?_).trans ?_
  · rfl
  refine (total _ _ _ _ _).trans ?_
  rw [← sum_coe]
  refine Finset.sum_congr rfl fun r _ => ?_
  have e1 : k2_pay2 (F := Ideal) s (rIx r) = ((tot (X r) : ℝ) : EReal) := by
    unfold k2_pay2
    simp only [shapeCast_self]
    exact hs r
  have e2 := tgt_eq g lc r _ (ht r)
  have e3 := scaled_eq g lc r _ (ht r)
  show (Ideal.ofBits .f32 0x3F800000#32 - Ideal.exp (Ideal.ofBits .f32 0x00000000#32 - (Ideal.log (k2_pay2 (F := Ideal) s (rIx r)
      - Ideal.exp2 (k2_pay5 (F := Ideal) g lc (rIx r) - (Named.named κ "c1" 0x422D1F97#32 : Ideal .f32))
      + Ideal.exp2 (k2_pay4 (F := Ideal) g lc (rIx r) * (Named.named κ "c1" 0x422D1F97#32 : Ideal .f32) - (Named.named κ "c1" 0x422D1F97#32 : Ideal .f32)))
      - (k2_pay4 (F := Ideal) g lc (rIx r) * Ideal.ofBits .f32 0x41F00000#32 - Ideal.ofBits .f32 0x41F00000#32))))
    * (Ideal.log (k2_pay2 (F := Ideal) s (rIx r)
      - Ideal.exp2 (k2_pay5 (F := Ideal) g lc (rIx r) - (Named.named κ "c1" 0x422D1F97#32 : Ideal .f32))
      + Ideal.exp2 (k2_pay4 (F := Ideal) g lc (rIx r) * (Named.named κ "c1" 0x422D1F97#32 : Ideal .f32) - (Named.named κ "c1" 0x422D1F97#32 : Ideal .f32)))
      - (k2_pay4 (F := Ideal) g lc (rIx r) * Ideal.ofBits .f32 0x41F00000#32 - Ideal.ofBits .f32 0x41F00000#32)) = _
  have hce : (Ideal.log (k2_pay2 (F := Ideal) s (rIx r)
      - Ideal.exp2 (k2_pay5 (F := Ideal) g lc (rIx r) - (Named.named κ "c1" 0x422D1F97#32 : Ideal .f32))
      + Ideal.exp2 (k2_pay4 (F := Ideal) g lc (rIx r) * (Named.named κ "c1" 0x422D1F97#32 : Ideal .f32) - (Named.named κ "c1" 0x422D1F97#32 : Ideal .f32)))
      - (k2_pay4 (F := Ideal) g lc (rIx r) * Ideal.ofBits .f32 0x41F00000#32 - Ideal.ofBits .f32 0x41F00000#32) : EReal) = ((ce (X r) (l r) : ℝ) : EReal) := by
    rw [e1, e2, e3, named_c1, lit_thirty]
    simp only [← EReal.coe_mul, ← EReal.coe_sub, Ideal.exp2_coe, pow_c1, ← EReal.coe_add]
    rw [Ideal.log_coe, if_neg (not_le.2 (sum_pos _ _)), ← EReal.coe_sub, ce, mul_comm 30 (tgt (X r (l r)))]
  rw [hce, lit_one, Ideal.ofBits_zero_f32, ← EReal.coe_zero, ← EReal.coe_sub, Ideal.exp_coe, ← EReal.coe_sub, ← EReal.coe_mul, term]

/-! ## The whole kernel -/

section Whole
open Cert.Proof.ScTile (lLoc lIx gathered)
open Cert.Proof.Main (W0 W1 W2 W3 W4 W5 W6 rv0 rv1 rv2 rv3 rv4 rv5 r0 op1 op2 op3)

variable (m : (ℓ : Loc nD τ sig) → Buf (Elt Ideal) ℓ) (d : Dev nD)
  (X : Fin 1024 → Fin 100000 → ℝ) (hX : ∀ r k, (m ((SparseCore.T (τ := τ) d).loc main_arg0) : S1024x100000.Idx → EReal) (aIx r k) = (X r k : EReal))
  (hl : ∀ r, ((m (lLoc d) : S1024.Idx → BitVec 32) (lIx r)).toNat < 100000)

theorem W1_v0 : (W1 m d rv0 : S800000x128.Idx → EReal) = shapeCast S800000x128 (m ((SparseCore.T (τ := τ) d).loc main_arg0) : S1024x100000.Idx → EReal) shapeCasts_S1024x100000_S800000x128 :=
  StableHlo.reshape_result' _ _ _ _ (W0 m d)

theorem W4_v3 : (W4 m d rv3 : S1024x1.Idx → BitVec 32) = shapeCast S1024x1 (W3 m d (Proc.devRef .tc main_arg1) : S1024.Idx → BitVec 32) shapeCasts_S1024_S1024x1 :=
  StableHlo.reshape_result' _ _ _ _ (W3 m d)

theorem W6_v5 : (W6 m d rv5 : S_.Idx → EReal) = shapeCast S_ (W5 m d rv4 : S1x1.Idx → EReal) shapeCasts_S1x1_S_ :=
  StableHlo.reshape_result' _ _ _ _ (W5 m d)

theorem W4_v3_apply (r : Fin 1024) : (W4 m d rv3 : S1024x1.Idx → BitVec 32) (rIx r) = (m (lLoc d) : S1024.Idx → BitVec 32) (lIx r) := by
  rw [W4_v3, Main.W3_ne m d main_arg1 (by decide), Main.W2_ne m d main_arg1 (by decide), Main.W1_ne m d main_arg1 (by decide)]
  exact shapeCast_apply (s := S1024) _ _ _ _ (by
    rewrite [Shape.rowMajor_val_one, Shape.rowMajor_val_two]
    show r.val = r.val * 1 + 0
    omega)

theorem W4_v1 : (W4 m d rv1 : S1024x128.Idx → EReal) = gathered (F := Ideal)
    (shapeCast S800000x128 (m ((SparseCore.T (τ := τ) d).loc main_arg0) : S1024x100000.Idx → EReal) shapeCasts_S1024x100000_S800000x128) (m (lLoc d)) := by
  rw [Main.W4_ne m d main_v1 (by decide), Main.W3_ne m d main_v1 (by decide), ← W1_v0 m d]
  exact Main.W2_v1 m d

theorem W4_v2 : (W4 m d rv2 : S1024x1.Idx → EReal) = accT (F := Ideal) (m ((SparseCore.T (τ := τ) d).loc main_arg0)) 49 := by
  rw [Main.W4_ne m d main_v2 (by decide), Main.W3_v2 m d, Main.W2_ne m d main_arg0 (by decide), Main.W1_ne m d main_arg0 (by decide)]

include hX in
/-- What the kernel leaves: the mean of the rows' losses. -/
theorem result_eq (i : S_.Idx) : (W6 m d rv5 : S_.Idx → EReal) i = mean X fun r => ⟨((m (lLoc d) : S1024.Idx → BitVec 32) (lIx r)).toNat, hl r⟩ := by
  rw [W6_v5, Main.W5_v4]
  refine (shapeCast_apply _ _ _ (show S1x1.Idx from fun | 0 => (0 : Fin 1) | 1 => (0 : Fin 1)) ?_).trans (loss_eq X _ _ _ _ (fun r => ?_) (fun r => ?_) _)
  · rfl
  · rw [W4_v2]
    exact acc_all _ X hX r
  · have e := W4_v3_apply m d r
    rw [pick _ _ r (by rw [e]; exact hl r), W4_v1, e]
    exact (gathered_pick _ _ _ r (hl r)).trans (hX r _)

end Whole

end Cert.Proof.KernelValue

end
-- ==== Proof.RefValue.lean ====
/-
  The reference's value over the extended reals, stage by stage.
-/
module

public import proofs.«01_k».proof.Proof.Gen.ReferenceIdeal.Read
public import proofs.«01_k».proof.Proof.Reals
public import Idealize.ShloMosaic.Lib.ReduceAll
public import Idealize.ShloMosaic.Lib.WordCmp
public import Idealize.ShloMosaic.Lib.Routing.OpsSet

@[expose] public section

noncomputable section

namespace Cert.Proof.RefValue

open Cert.ReferenceIdeal Cert.ReferenceIdeal.Gen Cert.ReferenceIdeal.Read Idealize.ShloMosaic
open Cert.Proof.Reals
open scoped BigOperators

/-! ## Indices -/

def lIx (r : Fin 1024) : S1024.Idx := fun | 0 => r
def aIx (r : Fin 1024) (k : Fin 100000) : S1024x100000.Idx := fun | 0 => r | 1 => k
def pIx (r : Fin 1024) (c : Fin 2) : S1024x2.Idx := fun | 0 => r | 1 => c
def cIx (r : Fin 1024) : S1024x1.Idx := fun | 0 => r | 1 => (0 : Fin 1)
def dIx (r : Fin 1024) : S1024x1x1.Idx := fun | 0 => r | 1 => (0 : Fin 1) | 2 => (0 : Fin 1)

theorem lIx_eta (i : S1024.Idx) : lIx (i 0) = i := funext fun | 0 => rfl
theorem aIx_eta (i : S1024x100000.Idx) : aIx (i 0) (i 1) = i := funext fun | 0 => rfl | 1 => rfl

theorem aIx_inj {r r' : Fin 1024} {k k' : Fin 100000} (h : aIx r k = aIx r' k') : r = r' ∧ k = k' := ⟨congrFun h 0, congrFun h 1⟩

/-! ## The index words -/

/-- A word below `2^31` is not negative. -/
theorem keep (l w : BitVec 32) (h : l.toNat < 2 ^ 31) : Scalar.select (IntOp.cmpi .slt l 0#32) w l = l := by
  have e : l.slt 0#32 = false := by
    rw [BitVec.slt_eq_decide, decide_eq_false_iff_not, BitVec.toInt_eq_toNat_cond, if_pos (by omega)]
    simp
  show Scalar.select (BitVec.ofBool (l.slt 0#32)) w l = l
  rw [e]; rfl

theorem toInt_of (l : BitVec 32) (h : l.toNat < 2 ^ 31) : l.toInt = (l.toNat : Int) := by
  rw [BitVec.toInt_eq_toNat_cond, if_pos (by omega)]

theorem row_toNat (r : Fin 1024) : (BitVec.ofNat 32 r.val).toNat = r.val := by
  have := r.isLt
  simp only [BitVec.toNat_ofNat]; omega

section
variable (x0 : S1024x100000.Idx → EReal) (x1 : S1024.Idx → BitVec 32) (hl : ∀ r, (x1 (lIx r)).toNat < 100000)

/-- A row's label. -/
def lab (r : Fin 1024) : Fin 100000 := ⟨(x1 (lIx r)).toNat, hl r⟩

theorem v5_apply (r : Fin 1024) : val_main_v5 (F := Ideal) (lIx r) = BitVec.ofNat 32 r.val :=
  keep _ _ (by rw [val_main_v0_apply]; exact (row_toNat r).trans_lt (by have := r.isLt; omega))

theorem v29_apply (r : Fin 1024) : val_main_v29 (F := Ideal) (lIx r) = BitVec.ofNat 32 r.val :=
  keep _ _ (by rw [val_main_v0_apply]; exact (row_toNat r).trans_lt (by have := r.isLt; omega))

include hl
theorem v10_apply (r : Fin 1024) : val_main_v10 (F := Ideal) x1 (lIx r) = x1 (lIx r) := keep _ _ (by have := hl r; omega)
theorem v34_apply (r : Fin 1024) : val_main_v34 (F := Ideal) x1 (lIx r) = x1 (lIx r) := keep _ _ (by have := hl r; omega)

omit hl in
theorem v13_zero (r : Fin 1024) : val_main_v13 (F := Ideal) x1 (pIx r 0) = BitVec.ofNat 32 r.val := by
  refine (concatenate_pair_apply_left (α := BitVec 32) (s₁ := S1024x1) (s₂ := S1024x1) (t := S1024x2) 1 _ _ _ (pIx r 0) rfl (cIx r) fun b => ?_).trans ?_
  · match b with
    | ⟨0, _⟩ => rfl
    | ⟨1, _⟩ => rfl
  · rw [val_main_v11_apply]; exact v5_apply r

theorem v13_one (r : Fin 1024) : val_main_v13 (F := Ideal) x1 (pIx r 1) = x1 (lIx r) := by
  refine (concatenate_pair_apply_right (α := BitVec 32) (s₁ := S1024x1) (s₂ := S1024x1) (t := S1024x2) 1 _ _ _ (pIx r 1) rfl rfl (cIx r) (fun b hb => ?_) rfl).trans ?_
  · match b with
    | ⟨0, _⟩ => rfl
    | ⟨1, _⟩ => exact absurd rfl hb
  · rw [val_main_v12_apply]; exact (congrArg (val_main_v10 (F := Ideal) x1) (show idx_main_v12 (cIx r) = lIx r from funext fun | 0 => rfl)).trans (v10_apply x1 hl r)

omit hl in
theorem v37_zero (r : Fin 1024) : val_main_v37 (F := Ideal) x1 (pIx r 0) = BitVec.ofNat 32 r.val := by
  refine (concatenate_pair_apply_left (α := BitVec 32) (s₁ := S1024x1) (s₂ := S1024x1) (t := S1024x2) 1 _ _ _ (pIx r 0) rfl (cIx r) fun b => ?_).trans ?_
  · match b with
    | ⟨0, _⟩ => rfl
    | ⟨1, _⟩ => rfl
  · rw [val_main_v35_apply]; exact v29_apply r

theorem v37_one (r : Fin 1024) : val_main_v37 (F := Ideal) x1 (pIx r 1) = x1 (lIx r) := by
  refine (concatenate_pair_apply_right (α := BitVec 32) (s₁ := S1024x1) (s₂ := S1024x1) (t := S1024x2) 1 _ _ _ (pIx r 1) rfl rfl (cIx r) (fun b hb => ?_) rfl).trans ?_
  · match b with
    | ⟨0, _⟩ => rfl
    | ⟨1, _⟩ => exact absurd rfl hb
  · rw [val_main_v36_apply]; exact (congrArg (val_main_v34 (F := Ideal) x1) (show idx_main_v36 (cIx r) = lIx r from funext fun | 0 => rfl)).trans (v34_apply x1 hl r)

/-! ## The gather and the scatter -/

omit hl in
theorem si_row (r : Fin 1024) (c : Fin 2) (h) :
    GatherDims.siIdx gather_S1024x100000_S1024x2_S1024_n_01_n_n_01_1_11 (lIx r) ⟨c.val, h⟩ = pIx r c := by
  funext b
  match b with
  | ⟨0, _⟩ => rfl
  | ⟨1, _⟩ => rfl

theorem v14_apply (r : Fin 1024) : val_main_v14 (F := Ideal) x0 x1 (lIx r) = x0 (aIx r (lab x1 hl r)) := by
  have hr := r.isLt
  have hL := hl r
  refine congrArg x0 (funext fun a => Fin.ext ?_)
  match a with
  | ⟨0, _⟩ =>
    show min (val_main_v13 (F := Ideal) x1 (GatherDims.siIdx gather_S1024x100000_S1024x2_S1024_n_01_n_n_01_1_11 (lIx r) ⟨(0 : Fin 2).val, by decide⟩)).toInt.toNat 1023 + 0 + 0 = r.val
    rw [si_row, v13_zero, toInt_of _ (by rw [row_toNat]; omega), row_toNat]
    omega
  | ⟨1, _⟩ =>
    show min (val_main_v13 (F := Ideal) x1 (GatherDims.siIdx gather_S1024x100000_S1024x2_S1024_n_01_n_n_01_1_11 (lIx r) ⟨(1 : Fin 2).val, by decide⟩)).toInt.toNat 99999 + 0 + 0 = (x1 (lIx r)).toNat
    rw [si_row, v13_one x1 hl, toInt_of _ (by omega)]
    omega

omit hl in
theorem si_row' (r : Fin 1024) (c : Fin 2) (h) :
    ScatterDims.siIdx scatter_S1024x100000_S1024x2_S1024_n_01_01_1 (lIx r) ⟨c.val, h⟩ = pIx r c := by
  funext b
  match b with
  | ⟨0, _⟩ => rfl
  | ⟨1, _⟩ => rfl

/-- Update `r` lands at row `r`, at its label. -/
theorem lands (r : Fin 1024) :
    ScatterDims.resultIdx? scatter_S1024x100000_S1024x2_S1024_n_01_01_1 (lIx r) (val_main_v37 (F := Ideal) x1) = some (aIx r (lab x1 hl r)) := by
  have hr := r.isLt
  have hL := hl r
  have h0 : ScatterDims.start scatter_S1024x100000_S1024x2_S1024_n_01_01_1 (lIx r) (val_main_v37 (F := Ideal) x1) 0
      + ScatterDims.window scatter_S1024x100000_S1024x2_S1024_n_01_01_1 (lIx r) 0 = (r.val : Int) := by
    show (val_main_v37 (F := Ideal) x1 (ScatterDims.siIdx scatter_S1024x100000_S1024x2_S1024_n_01_01_1 (lIx r) ⟨(0 : Fin 2).val, by decide⟩)).toInt + ((0 : ℕ) : Int) = r.val
    rw [si_row', v37_zero, toInt_of _ (by rw [row_toNat]; omega), row_toNat]
    omega
  have h1 : ScatterDims.start scatter_S1024x100000_S1024x2_S1024_n_01_01_1 (lIx r) (val_main_v37 (F := Ideal) x1) 1
      + ScatterDims.window scatter_S1024x100000_S1024x2_S1024_n_01_01_1 (lIx r) 1 = ((x1 (lIx r)).toNat : Int) := by
    show (val_main_v37 (F := Ideal) x1 (ScatterDims.siIdx scatter_S1024x100000_S1024x2_S1024_n_01_01_1 (lIx r) ⟨(1 : Fin 2).val, by decide⟩)).toInt + ((0 : ℕ) : Int) = _
    rw [si_row', v37_one x1 hl, toInt_of _ (by omega)]
    omega
  unfold ScatterDims.resultIdx?
  rw [dif_pos (fun a => by
    match a with
    | ⟨0, _⟩ => exact ⟨(by omega : (0 : Int) ≤ r.val).trans_eq h0.symm, h0.trans_lt (by omega : (r.val : Int) < ((1024 : ℕ) : Int))⟩
    | ⟨1, _⟩ => exact ⟨(by omega : (0 : Int) ≤ (x1 (lIx r)).toNat).trans_eq h1.symm, h1.trans_lt (by omega : ((x1 (lIx r)).toNat : Int) < ((100000 : ℕ) : Int))⟩)]
  refine congrArg some (funext fun a => Fin.ext ?_)
  match a with
  | ⟨0, _⟩ => exact (congrArg Int.toNat h0).trans (Int.toNat_natCast _)
  | ⟨1, _⟩ => exact (congrArg Int.toNat h1).trans (Int.toNat_natCast _)

theorem lands_iff (j : S1024.Idx) (r : Fin 1024) (k : Fin 100000)
    (h : ScatterDims.resultIdx? scatter_S1024x100000_S1024x2_S1024_n_01_01_1 j (val_main_v37 (F := Ideal) x1) = some (aIx r k)) :
    j = lIx r ∧ k = lab x1 hl r := by
  obtain ⟨r', rfl⟩ : ∃ r', j = lIx r' := ⟨j 0, (lIx_eta j).symm⟩
  rw [lands x1 hl] at h
  obtain ⟨e1, e2⟩ := aIx_inj (Option.some.inj h)
  subst e1
  exact ⟨rfl, e2.symm⟩

theorem v38_apply (r : Fin 1024) (k : Fin 100000) :
    val_main_v38 (F := Ideal) x0 x1 (aIx r k) = if k = lab x1 hl r then val_main_v24 (F := Ideal) x0 x1 (lIx r) else x0 (aIx r k) := by
  by_cases h : k = lab x1 hl r
  · rw [if_pos h]
    exact Routing.scatter_set_hit _ _ _ _ _ _ (fun j hj => congrArg _ (lands_iff x1 hl j r k hj).1) (lIx r) (by rw [h]; exact lands x1 hl r)
  · rw [if_neg h]
    exact Routing.scatter_set_miss _ _ _ _ _ fun j hj => h (lands_iff x1 hl j r k hj).2

/-! ## The target -/

variable (X : Fin 1024 → Fin 100000 → ℝ) (hX : ∀ r k, x0 (aIx r k) = (X r k : EReal))

include hX in
theorem v24_apply (r : Fin 1024) : val_main_v24 (F := Ideal) x0 x1 (lIx r) = ((tgt (X r (lab x1 hl r)) : ℝ) : EReal) := by
  have e := (v14_apply x0 x1 hl r).trans (hX r _)
  rw [val_main_v24_apply, val_main_v21_apply, val_main_v23_apply, val_main_v19_apply, val_main_v18_apply, val_main_v16_apply, val_main_v15_apply,
    val_main_call0_v2_apply, e, val_main_call0_v1_apply, val_main_call0_v0_apply, val_main_cst_apply, val_main_call0_v4_apply, val_main_call0_v3_apply,
    val_main_cst_3_apply, val_main_v17_apply, val_main_cst_4_apply, val_main_v20_apply, val_main_cst_5_apply, val_main_v22_apply, val_main_cst_6_apply]
  show Scalar.select (Ideal.cmp .ogt (X r (lab x1 hl r) : EReal) (Ideal.ofBits .f32 0xBF60A940#32))
    (Ideal.cos (Ideal.acos (min (Ideal.ofBits .f32 0x3F800000#32) (max (Ideal.ofBits .f32 0xBF800000#32) (X r (lab x1 hl r) : EReal))) + Ideal.ofBits .f32 0x3F000000#32))
    ((X r (lab x1 hl r) : EReal) - Ideal.ofBits .f32 0x3E757744#32) = _
  generalize X r (lab x1 hl r) = x
  have h1 : -1 ≤ min 1 (max (-1) x) := le_min (by norm_num) (le_max_left _ _)
  have h2 : min 1 (max (-1) x) ≤ 1 := min_le_left _ _
  rw [lit_mm, lit_half, lit_one, lit_neg_one, select_gt, tgt, max_coe, min_coe, Ideal.acos_coe, if_pos (And.intro h1 h2), ← EReal.coe_add, Ideal.cos_coe, ← EReal.coe_sub]
  split <;> rfl

/-! ## The logits and the log-softmax -/

include hX in
theorem v40_apply (r : Fin 1024) (k : Fin 100000) : val_main_v40 (F := Ideal) x0 x1 (aIx r k) = ((row (X r) (lab x1 hl r) k * 30 : ℝ) : EReal) := by
  rw [val_main_v40_apply, val_main_v39_apply, val_main_cst_11_apply, v38_apply x0 x1 hl, v24_apply x0 x1 hl X hX, hX, Ideal.mulf_def, Ideal.ofBits_def, lit_thirty,
    EReal.coe_mul, row]
  split <;> rfl

omit hl in
/-- The largest of a nonempty list of reals, from the bottom up, is a real. -/
theorem fold_max {ι : Type} (f : ι → EReal) (hf : ∀ n, ∃ x : ℝ, f n = x) (l : List ι) (hne : l ≠ []) :
    ∃ M : ℝ, l.foldl (fun a n => max a (f n)) ⊥ = (M : EReal) := by
  have hreal : ∀ (l : List ι) (x : ℝ), ∃ M : ℝ, l.foldl (fun a n => max a (f n)) (x : EReal) = (M : EReal) := by
    intro l
    induction l with
    | nil => exact fun x => ⟨x, rfl⟩
    | cons a t ih =>
      intro x
      obtain ⟨y, hy⟩ := hf a
      rw [List.foldl_cons, hy, max_coe]
      exact ih _
  cases l with
  | nil => exact absurd rfl hne
  | cons a t =>
    obtain ⟨y, hy⟩ := hf a
    rw [List.foldl_cons, hy, max_eq_right bot_le]
    exact hreal t y

include hl hX in
theorem max_real (r : Fin 1024) : ∃ M : ℝ, val_main_call2_v2 (F := Ideal) x0 x1 (lIx r) = (M : EReal) := by
  rw [val_main_call2_v2_apply, val_main_call2_v1_apply, val_main_call2_cst_0_apply, Ideal.maximumf_def, Ideal.ofBits_def, lit_bot, max_eq_right bot_le]
  have hb : val_main_call2_cst (F := Ideal) (Shape.Idx.first h_S_) = ⊥ := lit_bot
  unfold val_main_call2_v0 Host.reduce
  rw [hb]
  refine fold_max (fun n => val_main_v40 (F := Ideal) x0 x1 (S1024x100000.rowMajor.symm n)) (fun n => ?_) _ fun h => ?_
  · rw [← aIx_eta (S1024x100000.rowMajor.symm n)]
    exact ⟨_, v40_apply x0 x1 hl X hX _ _⟩
  · have hm : S1024x100000.rowMajor (aIx r 0) ∈ (List.finRange S1024x100000.numel).filter
        (fun n => reducesTo_S1024x100000_S1024_d1.drop (S1024x100000.rowMajor.symm n) = lIx r) := by
      rw [List.mem_filter]
      refine ⟨List.mem_finRange _, decide_eq_true ?_⟩
      rw [Equiv.symm_apply_apply]
      funext a
      match a with
      | ⟨0, _⟩ => exact Fin.ext (Shape.ReducesTo.drop_apply_val_of_eq reducesTo_S1024x100000_S1024_d1 (aIx r 0) 0 0)
    rw [h] at hm
    exact List.not_mem_nil hm

include hl hX in
/-- The log-softmax at an element, at some real shift. -/
theorem v41_apply (r : Fin 1024) : ∃ M : ℝ, ∀ k, val_main_v41 (F := Ideal) x0 x1 (aIx r k)
    = (((row (X r) (lab x1 hl r) k * 30 - M) - Real.log (∑ k', Real.exp (row (X r) (lab x1 hl r) k' * 30 - M)) : ℝ) : EReal) := by
  obtain ⟨M, hM⟩ := max_real x0 x1 hl X hX r
  have h5 : ∀ k, val_main_call2_v5 (F := Ideal) x0 x1 (aIx r k) = ((row (X r) (lab x1 hl r) k * 30 - M : ℝ) : EReal) := fun k => by
    rw [val_main_call2_v5_apply, v40_apply x0 x1 hl X hX, val_main_call2_v4_apply, val_main_call2_v3_apply, Ideal.subf_def, EReal.coe_sub]
    refine congrArg (_ - ·) (.trans (congrArg (val_main_call2_v2 (F := Ideal) x0 x1) ?_) hM)
    exact funext fun | 0 => rfl
  have h7 : val_main_call2_v7 (F := Ideal) x0 x1 (lIx r) = ((∑ k', Real.exp (row (X r) (lab x1 hl r) k' * 30 - M) : ℝ) : EReal) := by
    rw [val_main_call2_v7_apply, val_main_call2_cst_1_apply, Ideal.ofBits_def, Ideal.ofBits_zero_f32, zero_add, ← sum_coe]
    refine Finset.sum_congr rfl fun k _ => ?_
    rw [show idx_main_call2_v7 (lIx r) k = aIx r k from funext fun | 0 => rfl | 1 => rfl, val_main_call2_v6_apply, h5, Ideal.hostUnary_exp_def, Ideal.exp_coe]
  have hpos : 0 < ∑ k', Real.exp (row (X r) (lab x1 hl r) k' * 30 - M) :=
    Finset.sum_pos (fun _ _ => Real.exp_pos _) ⟨lab x1 hl r, Finset.mem_univ _⟩
  refine ⟨M, fun k => ?_⟩
  rw [val_main_v41_apply, h5, val_main_call2_v10_apply, val_main_call2_v9_apply, val_main_call2_v8_apply,
    show idx_main_call2_v8 (idx_main_call2_v10 (aIx r k)) = lIx r from funext fun | 0 => rfl, h7, Ideal.hostUnary_log_def, Ideal.log_coe, if_neg (not_le.2 hpos),
    Ideal.subf_def, ← EReal.coe_sub]

/-! ## The loss -/

include hl
theorem c5_apply (r : Fin 1024) : val_main_call3_v5 (F := Ideal) x1 (dIx r) = x1 (lIx r) := by
  have hi : idx_main_call3_v5 (dIx r) = cIx r := funext fun
    | 0 => Fin.ext (show ((r.val * 1 + 0) * 1 + 0) / 1 = r.val by omega)
    | 1 => rfl
  have e : val_main_v42 (F := Ideal) x1 (cIx r) = x1 (lIx r) := by
    rw [val_main_v42_apply]
    exact congrArg x1 (show idx_main_v42 (cIx r) = lIx r from funext fun | 0 => rfl)
  rw [val_main_call3_v5_apply, hi, val_main_call3_v4_apply, val_main_call3_v1_apply, e]
  exact keep _ _ (by have := hl r; omega)

theorem c12_apply (j : S1024x1.Idx) : val_main_call3_v12 (F := Ideal) x1 j = 1#1 := by
  refine Host.reduce_andi_one _ _ _ _ j rfl fun i => ?_
  obtain ⟨r, rfl⟩ : ∃ r, i = dIx r := ⟨i 0, funext fun
    | 0 => rfl
    | 1 => Subsingleton.elim (α := Fin 1) _ _
    | 2 => Subsingleton.elim (α := Fin 1) _ _⟩
  have h := hl r
  rw [val_main_call3_v11_apply, IntOp.andi_eq_one, val_main_call3_v7_apply, val_main_call3_v10_apply, c5_apply x1 hl, IntOp.cmpi_sge, IntOp.cmpi_sle,
    toInt_of (x1 (lIx r)) (by omega)]
  refine ⟨?_, ?_⟩
  · show (0 : Int) ≤ _
    omega
  · show _ ≤ (99999 : Int)
    omega

include hX in
theorem v43_apply (r : Fin 1024) : val_main_v43 (F := Ideal) x0 x1 (cIx r) = ((-ce (X r) (lab x1 hl r) : ℝ) : EReal) := by
  obtain ⟨M, hM⟩ := v41_apply x0 x1 hl X hX r
  have hr := r.isLt
  have hL := hl r
  rw [val_main_v43_apply, c12_apply x1 hl]
  show val_main_call3_v13 (F := Ideal) x0 x1 (cIx r) = _
  rw [← ce_eq (X r) (lab x1 hl r) M, neg_neg, ← hM]
  refine congrArg (val_main_v41 (F := Ideal) x0 x1) (funext fun a => Fin.ext ?_)
  match a with
  | ⟨0, _⟩ =>
    show 0 + r.val + 0 = r.val
    omega
  | ⟨1, _⟩ =>
    have hs : GatherDims.siIdx gather_S1024x100000_S1024x1x1_S1024x1_n_1_0_0_1_2_11 (cIx r) ⟨0, by decide⟩ = dIx r := funext fun b => by
      match b with
      | ⟨0, _⟩ => rfl
      | ⟨1, _⟩ => rfl
      | ⟨2, _⟩ => rfl
    show min (val_main_call3_v5 (F := Ideal) x1 (GatherDims.siIdx gather_S1024x100000_S1024x1x1_S1024x1_n_1_0_0_1_2_11 (cIx r) ⟨0, by decide⟩)).toInt.toNat 99999 + 0 + 0 = (x1 (lIx r)).toNat
    rw [hs, c5_apply x1 hl, toInt_of _ (by omega)]
    omega

include hX in
theorem v50_apply (r : Fin 1024) : val_main_v50 (F := Ideal) x0 x1 (lIx r) = ((term (X r) (lab x1 hl r) : ℝ) : EReal) := by
  have hi : idx_main_v44 (lIx r) = cIx r := funext fun
    | 0 => Fin.ext (show r.val / 1 = r.val by omega)
    | 1 => rfl
  have e45 : val_main_v45 (F := Ideal) x0 x1 (lIx r) = ((ce (X r) (lab x1 hl r) : ℝ) : EReal) := by
    rw [val_main_v45_apply, val_main_v44_apply, hi, v43_apply x0 x1 hl X hX, Ideal.hostNegf_def, Ideal.negf_def, ← EReal.coe_neg, neg_neg]
  rw [val_main_v50_apply, val_main_v49_apply, val_main_v48_apply, val_main_cst_12_apply, val_main_v47_apply, val_main_v46_apply, e45, Ideal.hostNegf_def, Ideal.negf_def,
    Ideal.hostUnary_exp_def, ← EReal.coe_neg, Ideal.exp_coe, Ideal.subf_def, Ideal.ofBits_def, lit_one, ← EReal.coe_sub, Ideal.mulf_def, ← EReal.coe_mul, term, zero_sub]

include hX in
/-- What the reference leaves: the mean of the rows' losses. -/
theorem result_eq (i : S_.Idx) : val_main_v52 (F := Ideal) x0 x1 i
    = Ideal.div (((∑ r, term (X r) (lab x1 hl r) : ℝ)) : EReal) (Ideal.ofBits .f32 0x44800000#32) := by
  rw [val_main_v52_apply, val_main_v51_apply, val_main_cst_13_apply, val_main_cst_14_apply, Ideal.hostDivf_def, Ideal.ofBits_def, Ideal.ofBits_def,
    Ideal.ofBits_zero_f32, zero_add, ← sum_coe]
  refine congrArg (Ideal.div · _) ?_
  refine (Fintype.sum_bijective lIx ⟨fun a b h => congrFun h 0, fun j => ⟨j 0, lIx_eta j⟩⟩ _ _ fun r => ?_).symm
  exact (v50_apply x0 x1 hl X hX r).symm

end

end Cert.Proof.RefValue

end
-- ==== Proof.Equal.lean ====
/-
  The kernel's value is the reference's: the finite precondition read at an element, and both runs at the one real number.
-/
module

public import proofs.«01_k».proof.Proof.Frames
public import proofs.«01_k».proof.Proof.KernelValue
public import proofs.«01_k».proof.Proof.RefValue

@[expose] public section

noncomputable section

namespace Cert.Proof.Equal

open Idealize.ShloMosaic Idealize.SL.Sem
open Cert.Proof.ScTile (PreOK lLoc)
open Cert.Proof.Main (run_main QC)
open Cert.Proof.Frames (labels_of' ok_of_finite idxUnit)

attribute [local instance] Cert.Pre_labels_in_range.Gen.facts Cert.Pre_finite_and_in_range.Gen.facts Cert.Kernel.Gen.facts Cert.KernelIdeal.Gen.facts Cert.ReferenceIdeal.Gen.facts

/-- An extended real whose magnitude lies below the top is a real number. -/
theorem real_of_lt (x : EReal) (h : Ideal.cmp .olt (max x (-x)) ⊤ = 1#1) : x = ((x.toReal : ℝ) : EReal) := by
  have hlt : max x (-x) < ⊤ := by
    by_contra hn
    have e : Ideal.cmp .olt (max x (-x)) ⊤ = 0#1 := by simp only [Ideal.cmp, hn, decide_false, BitVec.ofBool_false]; rfl
    rw [e] at h
    exact absurd h (by decide)
  refine (EReal.coe_toReal ?_ ?_).symm
  · rintro rfl
    exact absurd hlt (by simp)
  · rintro rfl
    exact absurd hlt (by simp)

/-- Under the precondition every score is a real number. -/
theorem finite_of (x : FVec Ideal Cert.Pre_labels_in_range.S1024x100000 .f32) (l : IVec Cert.Pre_labels_in_range.S1024 32)
    (h : Cert.Pre_finite_and_in_range.fn x l = fun _ => 1#1) (j : Cert.Pre_labels_in_range.S1024x100000.Idx) : (x j : EReal) = ((EReal.toReal (x j) : ℝ) : EReal) := by
  have e := congrFun h (fun a => a.elim0)
  simp only [Cert.Pre_finite_and_in_range.fn, andi] at e
  have e' := Host.reduce_andi_all _ _ _ _ _ (IntOp.andi_eq_one.1 e).2 j
  refine real_of_lt _ ?_
  rw [← Reals.lit_top]
  exact e'

theorem algebraic : Cert.algebraic_KernelIdeal_ReferenceIdeal_pre_finite_and_in_range := fun m g m' g' h hm => by
  have hl := ok_of_finite m h
  refine ⟨fun c => Main.W6 m c Main.rv5, ?_, ?_⟩
  · exact (θ_run Cert.KernelIdeal.defs _ _).mono (fun _ r c => ⟨(r.1 c).2.2, (r.1 c).1, (r.1 c).2.1⟩) (run_main (F := Ideal) m g hl)
  · refine (θ_run Cert.ReferenceIdeal.defs _ _).mono (fun _ r c => ⟨(r c).1.trans ?_, (r c).2⟩) (Cert.ReferenceIdeal.Value.run (F := Ideal) m' g')
    rw [Cert.ReferenceIdeal.Read.val_main_v52_eq, (hm c).1, (hm c).2]
    funext i
    refine (RefValue.result_eq _ _ (fun r => hl c _)
      (fun r k => EReal.toReal ((m ((c.tc : Thread Cert.KernelIdeal.nD Cert.KernelIdeal.τ).loc Cert.KernelIdeal.main_arg0) : Cert.KernelIdeal.S1024x100000.Idx → EReal) (Reduce.aIx r k)))
      (fun r k => finite_of _ _ (h c) (Reduce.aIx r k)) i).trans ?_
    exact (KernelValue.result_eq m c _ (fun r k => finite_of _ _ (h c) (Reduce.aIx r k)) (fun r => hl c _) i).symm

end Cert.Proof.Equal

end
-- ==== Proof.lean ====
/-
  The claim: the frames of the kernel at both printings and of the reference, the named constant's statement, and the
  equality of the kernel's and the reference's values over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_labels_in_range
public import proofs.«01_k».proof.Proof.Gen.Pre_finite_and_in_range
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_labels_in_range.Gen.facts, Cert.Pre_finite_and_in_range.Gen.facts,
  Frames.frame_machine, Frames.frame_ideal, Frames.frame_ideal_finite, Frames.frame_ref, Frames.frame_ref_finite, Frames.named, Equal.algebraic⟩

end Cert.Proof

end
